-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S4096x512 : Shape := ⟨2, ![4096, 512]⟩
abbrev S32 : Shape := ⟨1, ![32]⟩
abbrev S_ : Shape := ⟨0, ![]⟩
abbrev S1 : Shape := ⟨1, ![1]⟩
abbrev S32x512 : Shape := ⟨2, ![32, 512]⟩
abbrev S2048x512 : Shape := ⟨2, ![2048, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x1024, .f32⟩
  | .hbm, ⟨1, _⟩ => ⟨S4096x512, .f32⟩
  | .local _ .vmem, ⟨0, _⟩ => ⟨S2048x1024, .f32⟩
  | .local _ .vmem, ⟨1, _⟩ => ⟨S4096x512, .f32⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_6 : BitVec 32 := 1#32
  let v11 : BitVec 32 := Scalar.muli v7 c1_i32_6
  let v12 : BitVec 32 := Scalar.addi v10 v11
  v12.toNat
def k0_dev2 (d0 : Dev nD) : Nat :=
  let c0_i32_9 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_8 : BitVec 32 := 2#32
  let v13 : BitVec 32 := Scalar.muli v6 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_14 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32 : BitVec 32 := 2048#32
  let v18 : BitVec 32 := Scalar.muli v5 c2048_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_12 : BitVec 32 := 1024#32
  let v19 : BitVec 32 := Scalar.muli v2 c1024_i32_12
  let v20 : BitVec 32 := Scalar.addi v18 v19
  let v23 : BitVec 32 := Scalar.addi v20 c0_i32_14
  let c0_i32_20 : BitVec 32 := 0#32
  ![v23.toNat, 0]
def k0_off2 (d0 : Dev nD) (c0_i32_13 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v17 : BitVec 32 := Scalar.muli v2 c1024_i32
  let v21 : BitVec 32 := Scalar.addi v17 c0_i32_13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c512_i32 : BitVec 32 := 512#32
  let v22 : BitVec 32 := Scalar.muli v7 c512_i32
  ![v21.toNat, v22.toNat]
def k0_dev3 (d0 : Dev nD) : Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_17 : BitVec 32 := 2#32
  let v24 : BitVec 32 := Scalar.muli v2 c2_i32_17
  let v25 : BitVec 32 := Scalar.addi c0_i32_18 v24
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_19 : BitVec 32 := 1#32
  let v26 : BitVec 32 := Scalar.muli v7 c1_i32_19
  let v27 : BitVec 32 := Scalar.addi v25 v26
  v27.toNat
def k0_dev4 (d0 : Dev nD) : Nat :=
  let c0_i32_26 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_25 : BitVec 32 := 2#32
  let v37 : BitVec 32 := Scalar.muli v2 c2_i32_25
  let v38 : BitVec 32 := Scalar.addi c0_i32_26 v37
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_27 : BitVec 32 := 1#32
  let v39 : BitVec 32 := Scalar.muli v7 c1_i32_27
  let v40 : BitVec 32 := Scalar.addi v38 v39
  v40.toNat
def k0_dev5 (d0 : Dev nD) : Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_33 : BitVec 32 := 2#32
  let v50 : BitVec 32 := Scalar.muli v2 c2_i32_33
  let v51 : BitVec 32 := Scalar.addi c0_i32_34 v50
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_35 : BitVec 32 := 1#32
  let v52 : BitVec 32 := Scalar.muli v7 c1_i32_35
  let v53 : BitVec 32 := Scalar.addi v51 v52
  v53.toNat
def k0_dev6 (d0 : Dev nD) : Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_40 : BitVec 32 := 2#32
  let v63 : BitVec 32 := Scalar.muli v2 c2_i32_40
  let v64 : BitVec 32 := Scalar.addi c0_i32_41 v63
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_42 : BitVec 32 := 1#32
  let v65 : BitVec 32 := Scalar.muli v7 c1_i32_42
  let v66 : BitVec 32 := Scalar.addi v64 v65
  v66.toNat
def k0_dev7 (d0 : Dev nD) : Nat :=
  let c0_i32_48 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_47 : BitVec 32 := 2#32
  let v76 : BitVec 32 := Scalar.muli v2 c2_i32_47
  let v77 : BitVec 32 := Scalar.addi c0_i32_48 v76
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_49 : BitVec 32 := 1#32
  let v78 : BitVec 32 := Scalar.muli v7 c1_i32_49
  let v79 : BitVec 32 := Scalar.addi v77 v78
  v79.toNat
def k0_dev8 (d0 : Dev nD) : Nat :=
  let c0_i32_55 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_54 : BitVec 32 := 2#32
  let v89 : BitVec 32 := Scalar.muli v2 c2_i32_54
  let v90 : BitVec 32 := Scalar.addi c0_i32_55 v89
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_56 : BitVec 32 := 1#32
  let v91 : BitVec 32 := Scalar.muli v7 c1_i32_56
  let v92 : BitVec 32 := Scalar.addi v90 v91
  v92.toNat
def k0_dev9 (d0 : Dev nD) : Nat :=
  let c0_i32_62 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_61 : BitVec 32 := 2#32
  let v102 : BitVec 32 := Scalar.muli v2 c2_i32_61
  let v103 : BitVec 32 := Scalar.addi c0_i32_62 v102
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_63 : BitVec 32 := 1#32
  let v104 : BitVec 32 := Scalar.muli v7 c1_i32_63
  let v105 : BitVec 32 := Scalar.addi v103 v104
  v105.toNat
def k0_dev10 (d0 : Dev nD) : Nat :=
  let c0_i32_69 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_68 : BitVec 32 := 2#32
  let v115 : BitVec 32 := Scalar.muli v2 c2_i32_68
  let v116 : BitVec 32 := Scalar.addi c0_i32_69 v115
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_70 : BitVec 32 := 1#32
  let v117 : BitVec 32 := Scalar.muli v7 c1_i32_70
  let v118 : BitVec 32 := Scalar.addi v116 v117
  v118.toNat
def k0_dev11 (d0 : Dev nD) : Nat :=
  let c0_i32_76 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_75 : BitVec 32 := 2#32
  let v128 : BitVec 32 := Scalar.muli v2 c2_i32_75
  let v129 : BitVec 32 := Scalar.addi c0_i32_76 v128
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_77 : BitVec 32 := 1#32
  let v130 : BitVec 32 := Scalar.muli v7 c1_i32_77
  let v131 : BitVec 32 := Scalar.addi v129 v130
  v131.toNat
def k0_dev12 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v141 : BitVec 32 := Scalar.muli v2 c2_i32_82
  let v142 : BitVec 32 := Scalar.addi c0_i32_83 v141
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_84 : BitVec 32 := 1#32
  let v143 : BitVec 32 := Scalar.muli v7 c1_i32_84
  let v144 : BitVec 32 := Scalar.addi v142 v143
  v144.toNat
def k0_dev13 (d0 : Dev nD) : Nat :=
  let c0_i32_90 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_89 : BitVec 32 := 2#32
  let v154 : BitVec 32 := Scalar.muli v2 c2_i32_89
  let v155 : BitVec 32 := Scalar.addi c0_i32_90 v154
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_91 : BitVec 32 := 1#32
  let v156 : BitVec 32 := Scalar.muli v7 c1_i32_91
  let v157 : BitVec 32 := Scalar.addi v155 v156
  v157.toNat
def k0_dev14 (d0 : Dev nD) : Nat :=
  let c0_i32_97 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_96 : BitVec 32 := 2#32
  let v167 : BitVec 32 := Scalar.muli v2 c2_i32_96
  let v168 : BitVec 32 := Scalar.addi c0_i32_97 v167
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_98 : BitVec 32 := 1#32
  let v169 : BitVec 32 := Scalar.muli v7 c1_i32_98
  let v170 : BitVec 32 := Scalar.addi v168 v169
  v170.toNat
def k0_dev15 (d0 : Dev nD) : Nat :=
  let c0_i32_104 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_103 : BitVec 32 := 2#32
  let v180 : BitVec 32 := Scalar.muli v2 c2_i32_103
  let v181 : BitVec 32 := Scalar.addi c0_i32_104 v180
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_105 : BitVec 32 := 1#32
  let v182 : BitVec 32 := Scalar.muli v7 c1_i32_105
  let v183 : BitVec 32 := Scalar.addi v181 v182
  v183.toNat
def k0_dev16 (d0 : Dev nD) : Nat :=
  let c0_i32_111 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_110 : BitVec 32 := 2#32
  let v193 : BitVec 32 := Scalar.muli v2 c2_i32_110
  let v194 : BitVec 32 := Scalar.addi c0_i32_111 v193
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_112 : BitVec 32 := 1#32
  let v195 : BitVec 32 := Scalar.muli v7 c1_i32_112
  let v196 : BitVec 32 := Scalar.addi v194 v195
  v196.toNat
def k0_dev17 (d0 : Dev nD) : Nat :=
  let c0_i32_118 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_117 : BitVec 32 := 2#32
  let v206 : BitVec 32 := Scalar.muli v2 c2_i32_117
  let v207 : BitVec 32 := Scalar.addi c0_i32_118 v206
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_119 : BitVec 32 := 1#32
  let v208 : BitVec 32 := Scalar.muli v7 c1_i32_119
  let v209 : BitVec 32 := Scalar.addi v207 v208
  v209.toNat
def k0_dev18 (d0 : Dev nD) : Nat :=
  let c0_i32_125 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_124 : BitVec 32 := 2#32
  let v219 : BitVec 32 := Scalar.muli v2 c2_i32_124
  let v220 : BitVec 32 := Scalar.addi c0_i32_125 v219
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_126 : BitVec 32 := 1#32
  let v221 : BitVec 32 := Scalar.muli v7 c1_i32_126
  let v222 : BitVec 32 := Scalar.addi v220 v221
  v222.toNat
def k0_dev19 (d0 : Dev nD) : Nat :=
  let c0_i32_133 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_132 : BitVec 32 := 2#32
  let v232 : BitVec 32 := Scalar.muli v2 c2_i32_132
  let v233 : BitVec 32 := Scalar.addi c0_i32_133 v232
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_134 : BitVec 32 := 1#32
  let v234 : BitVec 32 := Scalar.muli v7 c1_i32_134
  let v235 : BitVec 32 := Scalar.addi v233 v234
  v235.toNat
def k0_dev20 (d0 : Dev nD) : Nat :=
  let c0_i32_140 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_139 : BitVec 32 := 2#32
  let v245 : BitVec 32 := Scalar.muli v2 c2_i32_139
  let v246 : BitVec 32 := Scalar.addi c0_i32_140 v245
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_141 : BitVec 32 := 1#32
  let v247 : BitVec 32 := Scalar.muli v7 c1_i32_141
  let v248 : BitVec 32 := Scalar.addi v246 v247
  v248.toNat
def k0_dev21 (d0 : Dev nD) : Nat :=
  let c0_i32_147 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_146 : BitVec 32 := 2#32
  let v258 : BitVec 32 := Scalar.muli v2 c2_i32_146
  let v259 : BitVec 32 := Scalar.addi c0_i32_147 v258
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_148 : BitVec 32 := 1#32
  let v260 : BitVec 32 := Scalar.muli v7 c1_i32_148
  let v261 : BitVec 32 := Scalar.addi v259 v260
  v261.toNat
def k0_dev22 (d0 : Dev nD) : Nat :=
  let c0_i32_154 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_153 : BitVec 32 := 2#32
  let v271 : BitVec 32 := Scalar.muli v2 c2_i32_153
  let v272 : BitVec 32 := Scalar.addi c0_i32_154 v271
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_155 : BitVec 32 := 1#32
  let v273 : BitVec 32 := Scalar.muli v7 c1_i32_155
  let v274 : BitVec 32 := Scalar.addi v272 v273
  v274.toNat
def k0_dev23 (d0 : Dev nD) : Nat :=
  let c0_i32_161 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_160 : BitVec 32 := 2#32
  let v284 : BitVec 32 := Scalar.muli v2 c2_i32_160
  let v285 : BitVec 32 := Scalar.addi c0_i32_161 v284
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_162 : BitVec 32 := 1#32
  let v286 : BitVec 32 := Scalar.muli v7 c1_i32_162
  let v287 : BitVec 32 := Scalar.addi v285 v286
  v287.toNat
def k0_dev24 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_167 : BitVec 32 := 2#32
  let v297 : BitVec 32 := Scalar.muli v2 c2_i32_167
  let v298 : BitVec 32 := Scalar.addi c0_i32_168 v297
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_169 : BitVec 32 := 1#32
  let v299 : BitVec 32 := Scalar.muli v7 c1_i32_169
  let v300 : BitVec 32 := Scalar.addi v298 v299
  v300.toNat
def k0_dev25 (d0 : Dev nD) : Nat :=
  let c0_i32_175 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_174 : BitVec 32 := 2#32
  let v310 : BitVec 32 := Scalar.muli v2 c2_i32_174
  let v311 : BitVec 32 := Scalar.addi c0_i32_175 v310
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_176 : BitVec 32 := 1#32
  let v312 : BitVec 32 := Scalar.muli v7 c1_i32_176
  let v313 : BitVec 32 := Scalar.addi v311 v312
  v313.toNat
def k0_dev26 (d0 : Dev nD) : Nat :=
  let c0_i32_182 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_181 : BitVec 32 := 2#32
  let v323 : BitVec 32 := Scalar.muli v2 c2_i32_181
  let v324 : BitVec 32 := Scalar.addi c0_i32_182 v323
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_183 : BitVec 32 := 1#32
  let v325 : BitVec 32 := Scalar.muli v7 c1_i32_183
  let v326 : BitVec 32 := Scalar.addi v324 v325
  v326.toNat
def k0_dev27 (d0 : Dev nD) : Nat :=
  let c0_i32_189 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_188 : BitVec 32 := 2#32
  let v336 : BitVec 32 := Scalar.muli v2 c2_i32_188
  let v337 : BitVec 32 := Scalar.addi c0_i32_189 v336
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_190 : BitVec 32 := 1#32
  let v338 : BitVec 32 := Scalar.muli v7 c1_i32_190
  let v339 : BitVec 32 := Scalar.addi v337 v338
  v339.toNat
def k0_dev28 (d0 : Dev nD) : Nat :=
  let c0_i32_196 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_195 : BitVec 32 := 2#32
  let v349 : BitVec 32 := Scalar.muli v2 c2_i32_195
  let v350 : BitVec 32 := Scalar.addi c0_i32_196 v349
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_197 : BitVec 32 := 1#32
  let v351 : BitVec 32 := Scalar.muli v7 c1_i32_197
  let v352 : BitVec 32 := Scalar.addi v350 v351
  v352.toNat
def k0_dev29 (d0 : Dev nD) : Nat :=
  let c0_i32_203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_202 : BitVec 32 := 2#32
  let v362 : BitVec 32 := Scalar.muli v2 c2_i32_202
  let v363 : BitVec 32 := Scalar.addi c0_i32_203 v362
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_204 : BitVec 32 := 1#32
  let v364 : BitVec 32 := Scalar.muli v7 c1_i32_204
  let v365 : BitVec 32 := Scalar.addi v363 v364
  v365.toNat
def k0_dev30 (d0 : Dev nD) : Nat :=
  let c0_i32_210 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_209 : BitVec 32 := 2#32
  let v375 : BitVec 32 := Scalar.muli v2 c2_i32_209
  let v376 : BitVec 32 := Scalar.addi c0_i32_210 v375
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_211 : BitVec 32 := 1#32
  let v377 : BitVec 32 := Scalar.muli v7 c1_i32_211
  let v378 : BitVec 32 := Scalar.addi v376 v377
  v378.toNat
def k0_dev31 (d0 : Dev nD) : Nat :=
  let c0_i32_217 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_216 : BitVec 32 := 2#32
  let v388 : BitVec 32 := Scalar.muli v2 c2_i32_216
  let v389 : BitVec 32 := Scalar.addi c0_i32_217 v388
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_218 : BitVec 32 := 1#32
  let v390 : BitVec 32 := Scalar.muli v7 c1_i32_218
  let v391 : BitVec 32 := Scalar.addi v389 v390
  v391.toNat
def k0_dev32 (d0 : Dev nD) : Nat :=
  let c0_i32_224 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_223 : BitVec 32 := 2#32
  let v401 : BitVec 32 := Scalar.muli v2 c2_i32_223
  let v402 : BitVec 32 := Scalar.addi c0_i32_224 v401
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_225 : BitVec 32 := 1#32
  let v403 : BitVec 32 := Scalar.muli v7 c1_i32_225
  let v404 : BitVec 32 := Scalar.addi v402 v403
  v404.toNat
def k0_dev33 (d0 : Dev nD) : Nat :=
  let c0_i32_231 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_230 : BitVec 32 := 2#32
  let v414 : BitVec 32 := Scalar.muli v2 c2_i32_230
  let v415 : BitVec 32 := Scalar.addi c0_i32_231 v414
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_232 : BitVec 32 := 1#32
  let v416 : BitVec 32 := Scalar.muli v7 c1_i32_232
  let v417 : BitVec 32 := Scalar.addi v415 v416
  v417.toNat
def k0_dev34 (d0 : Dev nD) : Nat :=
  let c0_i32_238 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_237 : BitVec 32 := 2#32
  let v427 : BitVec 32 := Scalar.muli v2 c2_i32_237
  let v428 : BitVec 32 := Scalar.addi c0_i32_238 v427
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_239 : BitVec 32 := 1#32
  let v429 : BitVec 32 := Scalar.muli v7 c1_i32_239
  let v430 : BitVec 32 := Scalar.addi v428 v429
  v430.toNat
def k0_off3 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c2048_i32_242 : BitVec 32 := 2048#32
  let v438 : BitVec 32 := Scalar.muli v5 c2048_i32_242
  let c0_i32_243 : BitVec 32 := 0#32
  ![v438.toNat, 0]
def k0_off4 (d0 : Dev nD) : Fin 2 → Nat :=
  let c0_i32_244 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_241 : BitVec 32 := 512#32
  let v437 : BitVec 32 := Scalar.muli v5 c512_i32_241
  ![0, v437.toNat]
def k0_off5 (d0 : Dev nD) (c0_i32_254 : BitVec 32) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c2048_i32_245 : BitVec 32 := 2048#32
  let v441 : BitVec 32 := Scalar.muli v7 c2048_i32_245
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_246 : BitVec 32 := 1024#32
  let v442 : BitVec 32 := Scalar.muli v2 c1024_i32_246
  let v443 : BitVec 32 := Scalar.addi v441 v442
  let v453 : BitVec 32 := Scalar.addi v443 c0_i32_254
  let c0_i32_260 : BitVec 32 := 0#32
  ![v453.toNat, 0]
def k0_dev35 (d0 : Dev nD) : Nat :=
  let c0_i32_258 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_257 : BitVec 32 := 2#32
  let v454 : BitVec 32 := Scalar.muli v6 c2_i32_257
  let v455 : BitVec 32 := Scalar.addi c0_i32_258 v454
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_259 : BitVec 32 := 1#32
  let v456 : BitVec 32 := Scalar.muli v5 c1_i32_259
  let v457 : BitVec 32 := Scalar.addi v455 v456
  v457.toNat
def k0_dev36 (d0 : Dev nD) : Nat :=
  let c0_i32_273 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_272 : BitVec 32 := 2#32
  let v474 : BitVec 32 := Scalar.muli v6 c2_i32_272
  let v475 : BitVec 32 := Scalar.addi c0_i32_273 v474
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_274 : BitVec 32 := 1#32
  let v476 : BitVec 32 := Scalar.muli v5 c1_i32_274
  let v477 : BitVec 32 := Scalar.addi v475 v476
  v477.toNat
def k0_dev37 (d0 : Dev nD) : Nat :=
  let c0_i32_288 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_287 : BitVec 32 := 2#32
  let v494 : BitVec 32 := Scalar.muli v6 c2_i32_287
  let v495 : BitVec 32 := Scalar.addi c0_i32_288 v494
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_289 : BitVec 32 := 1#32
  let v496 : BitVec 32 := Scalar.muli v5 c1_i32_289
  let v497 : BitVec 32 := Scalar.addi v495 v496
  v497.toNat
def k0_dev38 (d0 : Dev nD) : Nat :=
  let c0_i32_303 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_302 : BitVec 32 := 2#32
  let v514 : BitVec 32 := Scalar.muli v6 c2_i32_302
  let v515 : BitVec 32 := Scalar.addi c0_i32_303 v514
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_304 : BitVec 32 := 1#32
  let v516 : BitVec 32 := Scalar.muli v5 c1_i32_304
  let v517 : BitVec 32 := Scalar.addi v515 v516
  v517.toNat
def k0_dev39 (d0 : Dev nD) : Nat :=
  let c0_i32_318 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_317 : BitVec 32 := 2#32
  let v534 : BitVec 32 := Scalar.muli v6 c2_i32_317
  let v535 : BitVec 32 := Scalar.addi c0_i32_318 v534
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_319 : BitVec 32 := 1#32
  let v536 : BitVec 32 := Scalar.muli v5 c1_i32_319
  let v537 : BitVec 32 := Scalar.addi v535 v536
  v537.toNat
def k0_dev40 (d0 : Dev nD) : Nat :=
  let c0_i32_333 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_332 : BitVec 32 := 2#32
  let v554 : BitVec 32 := Scalar.muli v6 c2_i32_332
  let v555 : BitVec 32 := Scalar.addi c0_i32_333 v554
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_334 : BitVec 32 := 1#32
  let v556 : BitVec 32 := Scalar.muli v5 c1_i32_334
  let v557 : BitVec 32 := Scalar.addi v555 v556
  v557.toNat
def k0_dev41 (d0 : Dev nD) : Nat :=
  let c0_i32_348 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_347 : BitVec 32 := 2#32
  let v574 : BitVec 32 := Scalar.muli v6 c2_i32_347
  let v575 : BitVec 32 := Scalar.addi c0_i32_348 v574
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_349 : BitVec 32 := 1#32
  let v576 : BitVec 32 := Scalar.muli v5 c1_i32_349
  let v577 : BitVec 32 := Scalar.addi v575 v576
  v577.toNat
def k0_dev42 (d0 : Dev nD) : Nat :=
  let c0_i32_363 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_362 : BitVec 32 := 2#32
  let v594 : BitVec 32 := Scalar.muli v6 c2_i32_362
  let v595 : BitVec 32 := Scalar.addi c0_i32_363 v594
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_364 : BitVec 32 := 1#32
  let v596 : BitVec 32 := Scalar.muli v5 c1_i32_364
  let v597 : BitVec 32 := Scalar.addi v595 v596
  v597.toNat
def k0_dev43 (d0 : Dev nD) : Nat :=
  let c0_i32_378 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_377 : BitVec 32 := 2#32
  let v614 : BitVec 32 := Scalar.muli v6 c2_i32_377
  let v615 : BitVec 32 := Scalar.addi c0_i32_378 v614
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_379 : BitVec 32 := 1#32
  let v616 : BitVec 32 := Scalar.muli v5 c1_i32_379
  let v617 : BitVec 32 := Scalar.addi v615 v616
  v617.toNat
def k0_dev44 (d0 : Dev nD) : Nat :=
  let c0_i32_393 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_392 : BitVec 32 := 2#32
  let v634 : BitVec 32 := Scalar.muli v6 c2_i32_392
  let v635 : BitVec 32 := Scalar.addi c0_i32_393 v634
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_394 : BitVec 32 := 1#32
  let v636 : BitVec 32 := Scalar.muli v5 c1_i32_394
  let v637 : BitVec 32 := Scalar.addi v635 v636
  v637.toNat
def k0_dev45 (d0 : Dev nD) : Nat :=
  let c0_i32_408 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_407 : BitVec 32 := 2#32
  let v654 : BitVec 32 := Scalar.muli v6 c2_i32_407
  let v655 : BitVec 32 := Scalar.addi c0_i32_408 v654
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_409 : BitVec 32 := 1#32
  let v656 : BitVec 32 := Scalar.muli v5 c1_i32_409
  let v657 : BitVec 32 := Scalar.addi v655 v656
  v657.toNat
def k0_dev46 (d0 : Dev nD) : Nat :=
  let c0_i32_423 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_422 : BitVec 32 := 2#32
  let v674 : BitVec 32 := Scalar.muli v6 c2_i32_422
  let v675 : BitVec 32 := Scalar.addi c0_i32_423 v674
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_424 : BitVec 32 := 1#32
  let v676 : BitVec 32 := Scalar.muli v5 c1_i32_424
  let v677 : BitVec 32 := Scalar.addi v675 v676
  v677.toNat
def k0_dev47 (d0 : Dev nD) : Nat :=
  let c0_i32_438 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_437 : BitVec 32 := 2#32
  let v694 : BitVec 32 := Scalar.muli v6 c2_i32_437
  let v695 : BitVec 32 := Scalar.addi c0_i32_438 v694
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_439 : BitVec 32 := 1#32
  let v696 : BitVec 32 := Scalar.muli v5 c1_i32_439
  let v697 : BitVec 32 := Scalar.addi v695 v696
  v697.toNat
def k0_dev48 (d0 : Dev nD) : Nat :=
  let c0_i32_453 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_452 : BitVec 32 := 2#32
  let v714 : BitVec 32 := Scalar.muli v6 c2_i32_452
  let v715 : BitVec 32 := Scalar.addi c0_i32_453 v714
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_454 : BitVec 32 := 1#32
  let v716 : BitVec 32 := Scalar.muli v5 c1_i32_454
  let v717 : BitVec 32 := Scalar.addi v715 v716
  v717.toNat
def k0_dev49 (d0 : Dev nD) : Nat :=
  let c0_i32_468 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_467 : BitVec 32 := 2#32
  let v734 : BitVec 32 := Scalar.muli v6 c2_i32_467
  let v735 : BitVec 32 := Scalar.addi c0_i32_468 v734
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_469 : BitVec 32 := 1#32
  let v736 : BitVec 32 := Scalar.muli v5 c1_i32_469
  let v737 : BitVec 32 := Scalar.addi v735 v736
  v737.toNat
def k0_dev50 (d0 : Dev nD) : Nat :=
  let c0_i32_483 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_482 : BitVec 32 := 2#32
  let v754 : BitVec 32 := Scalar.muli v6 c2_i32_482
  let v755 : BitVec 32 := Scalar.addi c0_i32_483 v754
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_484 : BitVec 32 := 1#32
  let v756 : BitVec 32 := Scalar.muli v5 c1_i32_484
  let v757 : BitVec 32 := Scalar.addi v755 v756
  v757.toNat
def k0_dev51 (d0 : Dev nD) : Nat :=
  let c0_i32_498 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_497 : BitVec 32 := 2#32
  let v774 : BitVec 32 := Scalar.muli v6 c2_i32_497
  let v775 : BitVec 32 := Scalar.addi c0_i32_498 v774
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_499 : BitVec 32 := 1#32
  let v776 : BitVec 32 := Scalar.muli v5 c1_i32_499
  let v777 : BitVec 32 := Scalar.addi v775 v776
  v777.toNat
def k0_dev52 (d0 : Dev nD) : Nat :=
  let c0_i32_513 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_512 : BitVec 32 := 2#32
  let v794 : BitVec 32 := Scalar.muli v6 c2_i32_512
  let v795 : BitVec 32 := Scalar.addi c0_i32_513 v794
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_514 : BitVec 32 := 1#32
  let v796 : BitVec 32 := Scalar.muli v5 c1_i32_514
  let v797 : BitVec 32 := Scalar.addi v795 v796
  v797.toNat
def k0_dev53 (d0 : Dev nD) : Nat :=
  let c0_i32_528 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_527 : BitVec 32 := 2#32
  let v814 : BitVec 32 := Scalar.muli v6 c2_i32_527
  let v815 : BitVec 32 := Scalar.addi c0_i32_528 v814
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_529 : BitVec 32 := 1#32
  let v816 : BitVec 32 := Scalar.muli v5 c1_i32_529
  let v817 : BitVec 32 := Scalar.addi v815 v816
  v817.toNat
def k0_dev54 (d0 : Dev nD) : Nat :=
  let c0_i32_543 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_542 : BitVec 32 := 2#32
  let v834 : BitVec 32 := Scalar.muli v6 c2_i32_542
  let v835 : BitVec 32 := Scalar.addi c0_i32_543 v834
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_544 : BitVec 32 := 1#32
  let v836 : BitVec 32 := Scalar.muli v5 c1_i32_544
  let v837 : BitVec 32 := Scalar.addi v835 v836
  v837.toNat
def k0_dev55 (d0 : Dev nD) : Nat :=
  let c0_i32_558 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_557 : BitVec 32 := 2#32
  let v854 : BitVec 32 := Scalar.muli v6 c2_i32_557
  let v855 : BitVec 32 := Scalar.addi c0_i32_558 v854
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_559 : BitVec 32 := 1#32
  let v856 : BitVec 32 := Scalar.muli v5 c1_i32_559
  let v857 : BitVec 32 := Scalar.addi v855 v856
  v857.toNat
def k0_dev56 (d0 : Dev nD) : Nat :=
  let c0_i32_573 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_572 : BitVec 32 := 2#32
  let v874 : BitVec 32 := Scalar.muli v6 c2_i32_572
  let v875 : BitVec 32 := Scalar.addi c0_i32_573 v874
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_574 : BitVec 32 := 1#32
  let v876 : BitVec 32 := Scalar.muli v5 c1_i32_574
  let v877 : BitVec 32 := Scalar.addi v875 v876
  v877.toNat
def k0_dev57 (d0 : Dev nD) : Nat :=
  let c0_i32_588 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_587 : BitVec 32 := 2#32
  let v894 : BitVec 32 := Scalar.muli v6 c2_i32_587
  let v895 : BitVec 32 := Scalar.addi c0_i32_588 v894
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_589 : BitVec 32 := 1#32
  let v896 : BitVec 32 := Scalar.muli v5 c1_i32_589
  let v897 : BitVec 32 := Scalar.addi v895 v896
  v897.toNat
def k0_dev58 (d0 : Dev nD) : Nat :=
  let c0_i32_603 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_602 : BitVec 32 := 2#32
  let v914 : BitVec 32 := Scalar.muli v6 c2_i32_602
  let v915 : BitVec 32 := Scalar.addi c0_i32_603 v914
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_604 : BitVec 32 := 1#32
  let v916 : BitVec 32 := Scalar.muli v5 c1_i32_604
  let v917 : BitVec 32 := Scalar.addi v915 v916
  v917.toNat
def k0_dev59 (d0 : Dev nD) : Nat :=
  let c0_i32_618 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_617 : BitVec 32 := 2#32
  let v934 : BitVec 32 := Scalar.muli v6 c2_i32_617
  let v935 : BitVec 32 := Scalar.addi c0_i32_618 v934
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_619 : BitVec 32 := 1#32
  let v936 : BitVec 32 := Scalar.muli v5 c1_i32_619
  let v937 : BitVec 32 := Scalar.addi v935 v936
  v937.toNat
def k0_dev60 (d0 : Dev nD) : Nat :=
  let c0_i32_633 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_632 : BitVec 32 := 2#32
  let v954 : BitVec 32 := Scalar.muli v6 c2_i32_632
  let v955 : BitVec 32 := Scalar.addi c0_i32_633 v954
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_634 : BitVec 32 := 1#32
  let v956 : BitVec 32 := Scalar.muli v5 c1_i32_634
  let v957 : BitVec 32 := Scalar.addi v955 v956
  v957.toNat
def k0_dev61 (d0 : Dev nD) : Nat :=
  let c0_i32_648 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_647 : BitVec 32 := 2#32
  let v974 : BitVec 32 := Scalar.muli v6 c2_i32_647
  let v975 : BitVec 32 := Scalar.addi c0_i32_648 v974
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_649 : BitVec 32 := 1#32
  let v976 : BitVec 32 := Scalar.muli v5 c1_i32_649
  let v977 : BitVec 32 := Scalar.addi v975 v976
  v977.toNat
def k0_dev62 (d0 : Dev nD) : Nat :=
  let c0_i32_663 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_662 : BitVec 32 := 2#32
  let v994 : BitVec 32 := Scalar.muli v6 c2_i32_662
  let v995 : BitVec 32 := Scalar.addi c0_i32_663 v994
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_664 : BitVec 32 := 1#32
  let v996 : BitVec 32 := Scalar.muli v5 c1_i32_664
  let v997 : BitVec 32 := Scalar.addi v995 v996
  v997.toNat
def k0_dev63 (d0 : Dev nD) : Nat :=
  let c0_i32_678 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_677 : BitVec 32 := 2#32
  let v1014 : BitVec 32 := Scalar.muli v6 c2_i32_677
  let v1015 : BitVec 32 := Scalar.addi c0_i32_678 v1014
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_679 : BitVec 32 := 1#32
  let v1016 : BitVec 32 := Scalar.muli v5 c1_i32_679
  let v1017 : BitVec 32 := Scalar.addi v1015 v1016
  v1017.toNat
def k0_dev64 (d0 : Dev nD) : Nat :=
  let c0_i32_693 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_692 : BitVec 32 := 2#32
  let v1034 : BitVec 32 := Scalar.muli v6 c2_i32_692
  let v1035 : BitVec 32 := Scalar.addi c0_i32_693 v1034
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_694 : BitVec 32 := 1#32
  let v1036 : BitVec 32 := Scalar.muli v5 c1_i32_694
  let v1037 : BitVec 32 := Scalar.addi v1035 v1036
  v1037.toNat
def k0_dev65 (d0 : Dev nD) : Nat :=
  let c0_i32_708 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_707 : BitVec 32 := 2#32
  let v1054 : BitVec 32 := Scalar.muli v6 c2_i32_707
  let v1055 : BitVec 32 := Scalar.addi c0_i32_708 v1054
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_709 : BitVec 32 := 1#32
  let v1056 : BitVec 32 := Scalar.muli v5 c1_i32_709
  let v1057 : BitVec 32 := Scalar.addi v1055 v1056
  v1057.toNat
def k0_dev66 (d0 : Dev nD) : Nat :=
  let c0_i32_723 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_722 : BitVec 32 := 2#32
  let v1074 : BitVec 32 := Scalar.muli v6 c2_i32_722
  let v1075 : BitVec 32 := Scalar.addi c0_i32_723 v1074
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_724 : BitVec 32 := 1#32
  let v1076 : BitVec 32 := Scalar.muli v5 c1_i32_724
  let v1077 : BitVec 32 := Scalar.addi v1075 v1076
  v1077.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x1024 : Shape := ⟨2, ![4096, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Steps.lean ====
/-
The kernel's body as a flat sequence of effects.

The printed body is cut into parts by length. Here it is one sequence at a symbolic device `d` and a symbolic chunk
`k : Fin 32`: the two signals and the wait on the barrier; for every chunk, the transfer to the `y` neighbour; the
local copy; for every chunk, the wait for what the `y` neighbour sent and its transfer on to the `x` neighbour; for
every chunk, the waits for the two transfers issued and for what the `x` neighbour sent; the wait for the local copy.
-/
module

public import proofs.«01_k».proof.Proof.Gen.KernelIdeal
public import proofs.«01_k».proof.Proof.Gen.KernelIdeal.Skeleton

@[expose] public section

noncomputable section

namespace Cert.KernelIdealProof

open Cert.KernelIdeal Cert.KernelIdeal.Gen
open Idealize.ShloMosaic Idealize.SL.Sem

variable {F : FTy → Type} [FloatOps F]

/-- The staging buffers of the operand and of the result, whole. -/
abbrev xM : Memref sig .tc .vmem S2048x1024 .f32 := Memref.whole cc0_stg0_0
abbrev oM : Memref sig .tc .vmem S4096x512 .f32 := Memref.whole cc0_stg1_0

theorem inb32 (k : Fin 32) : ∀ a, (![k.val] : Fin 1 → Nat) a + S1.size a ≤ S32.size a := by revert k; decide

/-- Semaphore `k` of an array of 32. -/
abbrev semAt (a : DmaSems sig S32) (k : Fin 32) : DmaSem sig :=
  ((a.slice (Rect.unit (s := S32) ![k.val] S1.size (inb32 k))).squeeze S_ squeezes_S1_S_).sem

/-- The word `32 k`, the row offset of chunk `k` within its quarter. -/
abbrev rowW (k : Fin 32) : BitVec 32 := BitVec.ofNat 32 (32 * k.val)

/-- Chunk `k` of the operand that device `d` sends to its `y` neighbour; -/
abbrev srcM (d : Dev nD) (k : Fin 32) : Memref sig .tc .vmem S32x512 .f32 :=
  xM.slice (Rect.unit (s := S2048x1024) (k0_off2 d (rowW k)) S32x512.size (k0_off2_inb d k)) (fun _ => rfl)
/-- where it lands in the neighbour's result; -/
abbrev dstM (d : Dev nD) (k : Fin 32) : Memref sig .tc .vmem S32x512 .f32 :=
  oM.slice (Rect.unit (s := S4096x512) (k0_off1 d (rowW k)) S32x512.size (k0_off1_inb d k)) (fun _ => rfl)
/-- chunk `k` of its own result that `d` passes on to its `x` neighbour, to the same place there. -/
abbrev fwdM (d : Dev nD) (k : Fin 32) : Memref sig .tc .vmem S32x512 .f32 :=
  oM.slice (Rect.unit (s := S4096x512) (k0_off5 d (rowW k)) S32x512.size (k0_off5_inb d k)) (fun _ => rfl)
/-- The half of its operand's columns that `d` keeps, and the half of its result's rows it goes to. -/
abbrev keepSrcM (d : Dev nD) : Memref sig .tc .vmem S2048x512 .f32 :=
  xM.slice (Rect.unit (s := S2048x1024) (k0_off4 d) S2048x512.size (k0_off4_inb d)) (fun _ => rfl)
abbrev keepDstM (d : Dev nD) : Memref sig .tc .vmem S2048x512 .f32 :=
  oM.slice (Rect.unit (s := S4096x512) (k0_off3 d) S2048x512.size (k0_off3_inb d)) (fun _ => rfl)

/-- The barrier semaphore and the semaphores of the five kinds of transfer. -/
abbrev barS : Sem sig := (SemArray.scalar (sig.barrier 0 rfl) : Sems sig S_).sem
abbrev ySendS (k : Fin 32) : DmaSem sig := semAt cc0_scratch0 k
abbrev yRecvS (k : Fin 32) : DmaSem sig := semAt cc0_scratch1 k
abbrev xSendS (k : Fin 32) : DmaSem sig := semAt cc0_scratch2 k
abbrev xRecvS (k : Fin 32) : DmaSem sig := semAt cc0_scratch3 k
abbrev keepS : DmaSem sig := (cc0_scratch4 : DmaSems sig S_).sem

/-- The devices that the kernel's transfers address, as it computes them. -/
abbrev yDev (d : Dev nD) : Dev nD := ⟨k0_dev1 d, k0_dev1_lt d⟩
abbrev xDev (d : Dev nD) : Dev nD := ⟨k0_dev2 d, k0_dev2_lt d⟩

abbrev Body : Type 1 := Prog (TpuEff nD τ sig (Elt F) Λ₀ .tc) PUnit

/-- Chunk `k` to the `y` neighbour. -/
def ySend (d : Dev nD) (k : Fin 32) (p : Body (F := F)) : Body (F := F) :=
  .op (.enqueueDma (srcM d k) (.remote (Dev.tc (yDev d)) (dstM d k) (.dma (ySendS k))) (.dma (yRecvS k))
    (View.wordExact_bits rfl) (View.wordExact_bits rfl) ⟨⟨rfl, Or.inl rfl⟩, trivial⟩) fun _ => p
/-- The half that stays. -/
def keep (d : Dev nD) (p : Body (F := F)) : Body (F := F) :=
  .op (.enqueueDma (keepSrcM d) (.here (keepDstM d)) (.dma keepS)
    (View.wordExact_bits rfl) (View.wordExact_bits rfl) ⟨Or.inl rfl, trivial⟩) fun _ => p
/-- The wait for chunk `k` from the `y` neighbour, and the chunk passed on to the `x` neighbour. -/
def yWait (d : Dev nD) (k : Fin 32) (p : Body (F := F)) : Body (F := F) :=
  .op (.waitDma2 (yRecvS k) (srcM d k) (dstM d k) (View.wordExact_bits rfl) (View.wordExact_bits rfl)) fun _ => p
def xSend (d : Dev nD) (k : Fin 32) (p : Body (F := F)) : Body (F := F) :=
  .op (.enqueueDma (fwdM d k) (.remote (Dev.tc (xDev d)) (fwdM d k) (.dma (xSendS k))) (.dma (xRecvS k))
    (View.wordExact_bits rfl) (View.wordExact_bits rfl) ⟨⟨rfl, Or.inl rfl⟩, trivial⟩) fun _ => p
/-- The last three waits of chunk `k`: its two transfers have left, and the `x` neighbour's has landed. -/
def lastWaits (d : Dev nD) (k : Fin 32) (p : Body (F := F)) : Body (F := F) :=
  .op (.waitDma2 (ySendS k) (dstM d k) (srcM d k) (View.wordExact_bits rfl) (View.wordExact_bits rfl)) fun _ =>
  .op (.waitDma2 (xSendS k) (fwdM d k) (fwdM d k) (View.wordExact_bits rfl) (View.wordExact_bits rfl)) fun _ =>
  .op (.waitDma2 (xRecvS k) (fwdM d k) (fwdM d k) (View.wordExact_bits rfl) (View.wordExact_bits rfl)) fun _ => p
/-- The wait for the half that stays. -/
def keepWait (d : Dev nD) : Body (F := F) :=
  .op (.waitDma2 keepS (keepSrcM d) (keepDstM d) (View.wordExact_bits rfl) (View.wordExact_bits rfl)) .ret

/-- The step `f k` for the last `n` chunks in order, then `p`. -/
def chunks (f : Fin 32 → Body (F := F) → Body (F := F)) (p : Body (F := F)) : (n : Nat) → n ≤ 32 → Body (F := F)
  | 0, _ => p
  | n + 1, h => f ⟨31 - n, by omega⟩ (chunks f p n (Nat.le_of_succ_le h))

/-- The sequence after the barrier. -/
def afterBarrier (d : Dev nD) : Body (F := F) :=
  chunks (ySend d) (keep d (chunks (fun k p => yWait d k (xSend d k p)) (chunks (lastWaits d) (keepWait d) 32 le_rfl) 32 le_rfl)) 32 le_rfl

/-- The sequence once the device is known; -/
def onDev (d : Dev nD) : Body (F := F) :=
  semSignalWord (yDev d) barS 1#32 >>= fun _ => semSignalWord (xDev d) barS 1#32 >>= fun _ => semWaitWord barS 2#32 >>= fun _ => afterBarrier d

/-- the whole of it. -/
def flat : Body (F := F) := .op .deviceId fun d => onDev d

set_option maxRecDepth 65536 in
/-- The printed body is that sequence. -/
theorem body_eq_flat : cc0_body (F := F) xM (Memref.isWhole_whole _) oM (Memref.isWhole_whole _) cc0_scratch0 cc0_scratch1 cc0_scratch2 cc0_scratch3 cc0_scratch4
    = flat (F := F) := by
  rfl

end Cert.KernelIdealProof

end
-- ==== Proof.Mesh.lean ====
/-
The mesh, the semaphores and the regions of the two staging buffers.

The four devices form a 2 × 2 mesh: device `c` has coordinates `x = c / 2` and `y = c % 2`. `yp c` is the device with the
same `x` and the other `y`; `xp c` the one with the same `y` and the other `x`.

Each device has 130 semaphores that the kernel uses, each named here by its role: the barrier, the local copy's, and for
every chunk `k : Fin 32` the one that reports that the transfer to the `y` neighbour has left, that the `y` neighbour's
has landed, and the same two for the `x` neighbour.
-/
module

public import proofs.«01_k».proof.Proof.Steps
public import Idealize.ShloMosaic.Lib.Pipeline.ValueKit.Geometry

@[expose] public section

noncomputable section

namespace Cert.KernelIdealProof

open Cert.KernelIdeal Cert.KernelIdeal.Gen
open Idealize.ShloMosaic Idealize.ShloMosaic.TcCoe Idealize.SL.Sem

/-! ## The neighbours -/

set_option backward.proofsInPublic true in
/-- The device with the other `y` coordinate. -/
def yp (c : Dev nD) : Dev nD := ⟨2 * (c.val / 2) + (1 - c.val % 2), by have h : c.val < 4 := c.isLt; show _ < 4; omega⟩
set_option backward.proofsInPublic true in
/-- The device with the other `x` coordinate. -/
def xp (c : Dev nD) : Dev nD := ⟨2 * (1 - c.val / 2) + c.val % 2, by have h : c.val < 4 := c.isLt; show _ < 4; omega⟩

theorem yp_yp (c : Dev nD) : yp (yp c) = c := by revert c; decide
theorem xp_xp (c : Dev nD) : xp (xp c) = c := by revert c; decide
theorem yp_x (c : Dev nD) : (yp c).val / 2 = c.val / 2 := by revert c; decide
theorem yp_y (c : Dev nD) : (yp c).val % 2 = 1 - c.val % 2 := by revert c; decide
theorem xp_x (c : Dev nD) : (xp c).val / 2 = 1 - c.val / 2 := by revert c; decide
theorem xp_y (c : Dev nD) : (xp c).val % 2 = c.val % 2 := by revert c; decide
theorem x_le (c : Dev nD) : c.val / 2 ≤ 1 := by revert c; decide
theorem y_le (c : Dev nD) : c.val % 2 ≤ 1 := by revert c; decide
theorem y_cases (c : Dev nD) : c.val % 2 = 0 ∨ c.val % 2 = 1 := by revert c; decide

/-- Exchanging every device with its `y` neighbour, and with its `x` neighbour. -/
def ySwap : Dev nD ≃ Dev nD := ⟨yp, yp, yp_yp, yp_yp⟩
def xSwap : Dev nD ≃ Dev nD := ⟨xp, xp, xp_xp, xp_xp⟩

/-- The kernel's first device expression names the `y` neighbour, its second the `x` neighbour. -/
theorem yDev_eq (c : Dev nD) : yDev c = yp c := Fin.ext (by rw [show (yDev c).val = _ from k0_dev1_eq c]; revert c; decide)
theorem xDev_eq (c : Dev nD) : xDev c = xp c := Fin.ext (by rw [show (xDev c).val = _ from k0_dev2_eq c]; revert c; decide)

/-! ## The semaphores by role -/

/-- The roles of the semaphores that belong to the launch, and of all: the barrier's first. -/
abbrev Own : Type := Unit ⊕ Fin 32 ⊕ Fin 32 ⊕ Fin 32 ⊕ Fin 32
abbrev Role : Type := Unit ⊕ Own

instance : DecidableEq Own := inferInstance
instance : DecidableEq Role := inferInstance

namespace Role
@[match_pattern] abbrev bar : Role := .inl ()
@[match_pattern] abbrev keep : Role := .inr (.inl ())
@[match_pattern] abbrev ySend (k : Fin 32) : Role := .inr (.inr (.inl k))
@[match_pattern] abbrev yRecv (k : Fin 32) : Role := .inr (.inr (.inr (.inl k)))
@[match_pattern] abbrev xSend (k : Fin 32) : Role := .inr (.inr (.inr (.inr (.inl k))))
@[match_pattern] abbrev xRecv (k : Fin 32) : Role := .inr (.inr (.inr (.inr (.inr k))))
end Role

/-- The semaphore of a role. -/
def csem : Role → SemLoc sig
  | .bar => .reg barS
  | .keep => .dma keepS
  | .ySend k => .dma (ySendS k)
  | .yRecv k => .dma (yRecvS k)
  | .xSend k => .dma (xSendS k)
  | .xRecv k => .dma (xRecvS k)

set_option backward.proofsInPublic true in
/-- The role of a semaphore; the two that the pipeline stages its windows with have none. -/
def role : SemLoc sig → Option Role
  | .reg _ => some .bar
  | .dma q =>
    if q.val < 2 then none
    else if h : q.val < 34 then some (.ySend ⟨q.val - 2, by omega⟩)
    else if h : q.val < 66 then some (.yRecv ⟨q.val - 34, by omega⟩)
    else if h : q.val < 98 then some (.xSend ⟨q.val - 66, by omega⟩)
    else if h : q.val < 130 then some (.xRecv ⟨q.val - 98, by omega⟩)
    else some .keep

theorem ySendS_val (k : Fin 32) : (ySendS k).val = 2 + k.val := by revert k; decide
theorem yRecvS_val (k : Fin 32) : (yRecvS k).val = 34 + k.val := by revert k; decide
theorem xSendS_val (k : Fin 32) : (xSendS k).val = 66 + k.val := by revert k; decide
theorem xRecvS_val (k : Fin 32) : (xRecvS k).val = 98 + k.val := by revert k; decide

/-- The semaphore of a role has that role. -/
theorem role_csem (r : Role) : role (csem r) = some r := by
  rcases r with ⟨⟩ | ⟨⟩ | k | k | k | k
  · rfl
  · rfl
  · have h := ySendS_val k
    simp only [csem, role]
    rw [if_neg (by omega), dif_pos (by omega)]
    exact congrArg (fun k => some (Role.ySend k)) (Fin.ext (by dsimp only; omega))
  · have h := yRecvS_val k
    simp only [csem, role]
    rw [if_neg (by omega), dif_neg (by omega), dif_pos (by omega)]
    exact congrArg (fun k => some (Role.yRecv k)) (Fin.ext (by dsimp only; omega))
  · have h := xSendS_val k
    simp only [csem, role]
    rw [if_neg (by omega), dif_neg (by omega), dif_neg (by omega), dif_pos (by omega)]
    exact congrArg (fun k => some (Role.xSend k)) (Fin.ext (by dsimp only; omega))
  · have h := xRecvS_val k
    simp only [csem, role]
    rw [if_neg (by omega), dif_neg (by omega), dif_neg (by omega), dif_neg (by omega), dif_pos (by omega)]
    exact congrArg (fun k => some (Role.xRecv k)) (Fin.ext (by dsimp only; omega))

theorem csem_injective : Function.Injective csem := fun a b h => Option.some.inj (by rw [← role_csem a, h, role_csem])

/-- Device `c`'s semaphore of role `r`. -/
abbrev cell (c : Dev nD) (r : Role) : GSem nD τ sig := ((c : Thread nD τ), csem r)

theorem cell_eq_iff {a b : Dev nD} {r s : Role} : cell a r = cell b s ↔ a = b ∧ r = s :=
  ⟨fun h => ⟨congrArg (fun g : GSem nD τ sig => g.1.1) h, csem_injective (congrArg Prod.snd h)⟩, fun h => by rw [h.1, h.2]⟩

theorem cell_injective : Function.Injective (fun p : Dev nD × Role => cell p.1 p.2) :=
  fun p q h => Prod.ext (cell_eq_iff.mp h).1 (cell_eq_iff.mp h).2

/-! ## The regions -/

/-- The chunk's credit and the kept half's. -/
abbrev N : ℕ := (fwdM 0 0).view.dmaCredit
abbrev NK : ℕ := (keepDstM 0).view.dmaCredit
theorem N_pos : 0 < N := View.dmaCredit_pos _ (by decide)
theorem NK_pos : 0 < NK := View.dmaCredit_pos _ (by decide)

/-- Membership in a region: the row and the column lie in its ranges. -/
theorem mem_srcM {c : Dev nD} {k : Fin 32} {i : S2048x1024.Idx} : i ∈ (srcM c k).view.set ↔
    (1024 * (c.val / 2) + 32 * k.val ≤ (i 0).val ∧ (i 0).val < 1024 * (c.val / 2) + 32 * k.val + 32)
      ∧ (512 - 512 * (c.val % 2) ≤ (i 1).val ∧ (i 1).val < 512 - 512 * (c.val % 2) + 512) := by
  refine (ValueKit.mem_set_slice_whole_iff cc0_stg0_0 _ i Rect.mem_set_unit).trans ?_
  rw [k0_off2_eq]; exact Fin.forall_fin_two

theorem mem_fwdM {c : Dev nD} {k : Fin 32} {i : S4096x512.Idx} : i ∈ (fwdM c k).view.set ↔
    (1024 * (c.val / 2) + 32 * k.val + 2048 - 2048 * (c.val % 2) ≤ (i 0).val
      ∧ (i 0).val < 1024 * (c.val / 2) + 32 * k.val + 2048 - 2048 * (c.val % 2) + 32) := by
  refine (ValueKit.mem_set_slice_whole_iff cc0_stg1_0 _ i Rect.mem_set_unit).trans ?_
  rw [k0_off5_eq]
  refine Fin.forall_fin_two.trans ⟨fun h => h.1, fun h => ⟨h, Nat.zero_le _, ?_⟩⟩
  have : (i 1).val < 512 := (i 1).isLt
  show (i 1).val < 0 + 512; omega

theorem mem_keepSrcM {c : Dev nD} {i : S2048x1024.Idx} : i ∈ (keepSrcM c).view.set ↔
    (512 * (c.val % 2) ≤ (i 1).val ∧ (i 1).val < 512 * (c.val % 2) + 512) := by
  refine (ValueKit.mem_set_slice_whole_iff cc0_stg0_0 _ i Rect.mem_set_unit).trans ?_
  rw [k0_off4_eq]
  refine Fin.forall_fin_two.trans ⟨fun h => h.2, fun h => ⟨⟨Nat.zero_le _, ?_⟩, h⟩⟩
  have : (i 0).val < 2048 := (i 0).isLt
  show (i 0).val < 0 + 2048; omega

theorem mem_keepDstM {c : Dev nD} {i : S4096x512.Idx} : i ∈ (keepDstM c).view.set ↔
    (2048 * (c.val % 2) ≤ (i 0).val ∧ (i 0).val < 2048 * (c.val % 2) + 2048) := by
  refine (ValueKit.mem_set_slice_whole_iff cc0_stg1_0 _ i Rect.mem_set_unit).trans ?_
  rw [k0_off3_eq]
  refine Fin.forall_fin_two.trans ⟨fun h => h.1, fun h => ⟨h, Nat.zero_le _, ?_⟩⟩
  have : (i 1).val < 512 := (i 1).isLt
  show (i 1).val < 0 + 512; omega

/-- Where `c`'s chunk `k` lands on its `y` neighbour is the chunk that the neighbour passes on. -/
theorem dstM_eq (c : Dev nD) (k : Fin 32) : dstM c k = fwdM (yp c) k :=
  Memref.slice_unit_congr oM (by
    show k0_off1 c (rowW k) = k0_off5 (yp c) (rowW k)
    rw [k0_off1_eq, k0_off5_eq, yp_x, yp_y]; have := y_le c; congr 1; omega) _ _ _ _

/-! ### The result's buffer: the kept half, the chunks passed on, the `x` neighbour's chunks -/

/-- The places of the chunks that device `c` receives from its `y` neighbour, and from its `x` neighbour. -/
abbrev setA (c : Dev nD) (k : Fin 32) : Finset S4096x512.Idx := (fwdM c k).view.set
abbrev setB (c : Dev nD) (k : Fin 32) : Finset S4096x512.Idx := (fwdM (xp c) k).view.set
abbrev setH (c : Dev nD) : Finset S4096x512.Idx := (keepDstM c).view.set
/-- The chunks of the operand that leave, and the half that stays. -/
abbrev srcs (c : Dev nD) (k : Fin 32) : Finset S2048x1024.Idx := (srcM c k).view.set
abbrev srcH (c : Dev nD) : Finset S2048x1024.Idx := (keepSrcM c).view.set

theorem setA_disj (c : Dev nD) (k k' : Fin 32) (hk : k ≠ k') : Disjoint (setA c k) (setA c k') :=
  Finset.disjoint_left.mpr fun i h h' => by
    rw [mem_fwdM] at h h'; have := x_le c; have := y_le c; exact hk (Fin.ext (by omega))
theorem srcs_disj (c : Dev nD) (k k' : Fin 32) (hk : k ≠ k') : Disjoint (srcs c k) (srcs c k') :=
  Finset.disjoint_left.mpr fun i h h' => by
    rw [mem_srcM] at h h'; exact hk (Fin.ext (by omega))
theorem srcH_disj (c : Dev nD) (k : Fin 32) : Disjoint (srcH c) (srcs c k) :=
  Finset.disjoint_left.mpr fun i h h' => by
    rw [mem_keepSrcM] at h; rw [mem_srcM] at h'; have := y_cases c; omega

theorem mem_setB {c : Dev nD} {k : Fin 32} {i : S4096x512.Idx} : i ∈ setB c k ↔
    (1024 * (1 - c.val / 2) + 32 * k.val + 2048 - 2048 * (c.val % 2) ≤ (i 0).val
      ∧ (i 0).val < 1024 * (1 - c.val / 2) + 32 * k.val + 2048 - 2048 * (c.val % 2) + 32) := by
  rw [← xp_x, ← xp_y]; exact mem_fwdM

theorem setAB_disj (c : Dev nD) (k k' : Fin 32) : Disjoint (setA c k) (setB c k') :=
  Finset.disjoint_left.mpr fun i h h' => by
    rw [mem_fwdM] at h; rw [mem_setB] at h'
    have := x_le c; have := y_cases c; have := k.isLt; have := k'.isLt; omega
theorem setHA_disj (c : Dev nD) (k : Fin 32) : Disjoint (setH c) (setA c k) :=
  Finset.disjoint_left.mpr fun i h h' => by
    rw [mem_keepDstM] at h; rw [mem_fwdM] at h'
    have := x_le c; have := y_cases c; have := k.isLt; omega
theorem setHB_disj (c : Dev nD) (k : Fin 32) : Disjoint (setH c) (setB c k) :=
  Finset.disjoint_left.mpr fun i h h' => by
    rw [mem_keepDstM] at h; rw [mem_setB] at h'
    have := x_le c; have := y_cases c; have := k.isLt; omega

/-- Every row lies in the kept half, in a chunk of the one quarter of the other half, or in a chunk of the other quarter. -/
theorem rows_all (x y r : ℕ) (hx : x = 0 ∨ x = 1) (hy : y = 0 ∨ y = 1) (hr : r < 4096) :
    (2048 * y ≤ r ∧ r < 2048 * y + 2048)
      ∨ (∃ k : Fin 32, 1024 * x + 32 * k.val + 2048 - 2048 * y ≤ r ∧ r < 1024 * x + 32 * k.val + 2048 - 2048 * y + 32)
      ∨ ∃ k : Fin 32, 1024 * (1 - x) + 32 * k.val + 2048 - 2048 * y ≤ r ∧ r < 1024 * (1 - x) + 32 * k.val + 2048 - 2048 * y + 32 := by
  have hk : r % 1024 / 32 < 32 := by omega
  by_cases hH : 2048 * y ≤ r ∧ r < 2048 * y + 2048
  · exact .inl hH
  by_cases hA : r % 2048 / 1024 = x
  · refine .inr (.inl ⟨⟨r % 1024 / 32, hk⟩, ?_⟩)
    rcases hx with rfl | rfl <;> rcases hy with rfl | rfl <;> dsimp only <;> omega
  · refine .inr (.inr ⟨⟨r % 1024 / 32, hk⟩, ?_⟩)
    rcases hx with rfl | rfl <;> rcases hy with rfl | rfl <;> dsimp only <;> omega

/-- The three parts are the whole buffer. -/
theorem sets_all (c : Dev nD) (i : S4096x512.Idx) : i ∈ setH c ∨ (∃ k, i ∈ setA c k) ∨ ∃ k, i ∈ setB c k := by
  have hx : c.val / 2 = 0 ∨ c.val / 2 = 1 := by have := x_le c; omega
  have h0 : (i 0).val < 4096 := (i 0).isLt
  rcases rows_all _ _ _ hx (y_cases c) h0 with h | ⟨k, h⟩ | ⟨k, h⟩
  · exact .inl (mem_keepDstM.mpr h)
  · exact .inr (.inl ⟨k, mem_fwdM.mpr h⟩)
  · exact .inr (.inr ⟨k, mem_setB.mpr h⟩)

end Cert.KernelIdealProof

end
-- ==== Proof.Schedule.lean ====
/-
The protocol: what every semaphore's units hand over, what every device owes at launch, and the order of the waits.

Each semaphore is used for one round. Its units are duties, named by `Bool`; only the barrier has two.

* The barrier of `c`: `false`, paid by `yp c`, hands over the places in `yp c`'s result that `c` sends its chunks to;
  `true`, paid by `xp c`, hands over the places in `xp c`'s result that `c` passes its chunks on to.
* `ySend k` of `c`: paid by `c`'s own transfer once it has left; gives back chunk `k` of the operand.
* `yRecv k` of `c`: paid by `yp c`'s transfer once it has landed; hands over chunk `k` of `c`'s result, at its final contents.
* `xSend k` of `c`: paid by `c`'s own transfer once it has left; gives that chunk of `c`'s result back.
* `xRecv k` of `c`: paid by `xp c`'s transfer once it has landed; hands over chunk `k` of the other quarter, at its final contents.
* `keep` of `c`: paid by `c`'s local copy; gives back the operand's half and hands over the result's half, at its final contents.

A device waits on a semaphore only while all that it owes lies on higher levels: the staging, sends and local copy are
at level 0, barriers at 1, `yRecv` at 2, `xRecv` at 3.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Rounds.Family
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## Contents -/

/-- Device `c`'s operand, as staged. -/
def xstg (c : Dev nD) : (cc0_stg0_0 : Ref sig .tc).ty.Contents (Elt F) :=
  (win0_0.blk (0 : Fin 1)).view.read (Elt F) ((s₀ m ρ).mem ((c : Thread nD τ).loc main_arg0))

set_option backward.proofsInPublic true in
/-- The device whose operand an element of `c`'s result comes from. The element's row gives the `y` coordinate; the `x`
    coordinate is `c`'s own in the half that `c` keeps, and else is given by the row's quarter. -/
def srcDev (c : Dev nD) (i : S4096x512.Idx) : Dev nD :=
  ⟨2 * (if (i 0).val / 2048 = c.val % 2 then c.val / 2 else (i 0).val % 2048 / 1024) + (i 0).val / 2048, by
    have h : c.val < 4 := c.isLt
    have h0 : (i 0).val < 4096 := (i 0).isLt
    show _ < 4; split <;> omega⟩

set_option backward.proofsInPublic true in
/-- The element of that operand. -/
def srcIdx (c : Dev nD) (i : S4096x512.Idx) : S2048x1024.Idx
  | ⟨0, _⟩ => ⟨(i 0).val % 2048, Nat.mod_lt _ (by decide)⟩
  | ⟨1, _⟩ => ⟨512 * (c.val % 2) + (i 1).val, by
      have h1 : (i 1).val < 512 := (i 1).isLt
      show _ < 1024; omega⟩

/-- Device `c`'s result. -/
def outAt (c : Dev nD) : (cc0_stg1_0 : Ref sig .tc).ty.Contents (Elt F) :=
  fun i : S4096x512.Idx => xstg m ρ (srcDev c i) (srcIdx c i)

/-- An element of the result is the one of an operand with that device and coordinates. -/
theorem outAt_eq (c d : Dev nD) (i : S4096x512.Idx) (j : S2048x1024.Idx) (hd : (srcDev c i).val = d.val)
    (h0 : (i 0).val % 2048 = (j 0).val) (h1 : 512 * (c.val % 2) + (i 1).val = (j 1).val) :
    xstg m ρ d j = outAt m ρ c i := by
  have hj : srcIdx c i = j := funext fun a => by
    fin_cases a
    · exact Fin.ext h0
    · exact Fin.ext h1
  unfold outAt; rw [Fin.ext hd, hj]

/-- A chunk sent to the `y` neighbour lands as that device's result. -/
theorem landed_y (c : Dev nD) (k : Fin 32) (fd : (cc0_stg1_0 : Ref sig .tc).ty.Contents (Elt F)) :
    ∀ i ∈ (dstM c k).view.set, (dstM c k).view.write (Elt F) fd ((srcM c k).view.read (Elt F) (xstg m ρ c)) Finset.univ i = outAt m ρ (yp c) i := by
  intro i hi
  obtain ⟨j, -, rfl⟩ := Finset.mem_map.mp hi
  have hx := x_le c; have hy := y_cases c; have hk := k.isLt
  have hj0 : (j 0).val < 32 := (j 0).isLt
  have e0 : (((dstM c k).view.emb j : S4096x512.Idx) 0).val = 2048 * (c.val % 2) + 1024 * (c.val / 2) + 32 * k.val + (j 0).val :=
    (ValueKit.view_emb_slice_whole_unit_val cc0_stg1_0 _ _ _ j 0).trans (congrArg (fun o : Fin 2 → ℕ => o 0 + (j 0).val) (k0_off1_eq c k))
  have e1 : (((dstM c k).view.emb j : S4096x512.Idx) 1).val = (j 1).val :=
    (ValueKit.view_emb_slice_whole_unit_val cc0_stg1_0 _ _ _ j 1).trans ((congrArg (fun o : Fin 2 → ℕ => o 1 + (j 1).val) (k0_off1_eq c k)).trans (Nat.zero_add _))
  have s0 : (((srcM c k).view.emb j : S2048x1024.Idx) 0).val = 1024 * (c.val / 2) + 32 * k.val + (j 0).val :=
    (ValueKit.view_emb_slice_whole_unit_val cc0_stg0_0 _ _ _ j 0).trans (congrArg (fun o : Fin 2 → ℕ => o 0 + (j 0).val) (k0_off2_eq c k))
  have s1 : (((srcM c k).view.emb j : S2048x1024.Idx) 1).val = 512 - 512 * (c.val % 2) + (j 1).val :=
    (ValueKit.view_emb_slice_whole_unit_val cc0_stg0_0 _ _ _ j 1).trans (congrArg (fun o : Fin 2 → ℕ => o 1 + (j 1).val) (k0_off2_eq c k))
  rw [View.write_emb_of_mem _ _ (Finset.mem_univ j)]
  refine outAt_eq m ρ (yp c) c _ _ ?_ ?_ ?_
  · simp only [srcDev, yp_y, yp_x]; rw [e0]; split <;> omega
  · rw [e0, s0]; omega
  · rw [e1, s1, yp_y]; omega

/-- What is passed on is the `x` neighbour's result too; -/
theorem outAt_xp (c : Dev nD) (k : Fin 32) : ∀ i ∈ (fwdM c k).view.set, outAt m ρ c i = outAt m ρ (xp c) i := by
  intro i hi
  have hi := mem_fwdM.mp hi
  have hx := x_le c; have hy := y_cases c; have hk := k.isLt
  refine outAt_eq m ρ (xp c) (srcDev c i) i (srcIdx c i) ?_ rfl (by rw [xp_y]; rfl)
  simp only [srcDev, xp_x, xp_y]
  split <;> omega

/-- so it lands as that device's result. -/
theorem landed_x (c : Dev nD) (k : Fin 32) (fd : (cc0_stg1_0 : Ref sig .tc).ty.Contents (Elt F)) :
    ∀ i ∈ (fwdM c k).view.set, (fwdM c k).view.write (Elt F) fd ((fwdM c k).view.read (Elt F) (outAt m ρ c)) Finset.univ i = outAt m ρ (xp c) i := by
  intro i hi
  rw [← outAt_xp m ρ c k i hi]
  obtain ⟨j, -, rfl⟩ := Finset.mem_map.mp hi
  rw [View.write_emb_of_mem _ _ (Finset.mem_univ j)]; rfl

/-- The half that stays lands as the device's own result. -/
theorem landed_keep (c : Dev nD) (fd : (cc0_stg1_0 : Ref sig .tc).ty.Contents (Elt F)) :
    ∀ i ∈ (keepDstM c).view.set, (keepDstM c).view.write (Elt F) fd ((keepSrcM c).view.read (Elt F) (xstg m ρ c)) Finset.univ i = outAt m ρ c i := by
  intro i hi
  obtain ⟨j, -, rfl⟩ := Finset.mem_map.mp hi
  have hx := x_le c; have hy := y_cases c
  have hj0 : (j 0).val < 2048 := (j 0).isLt
  have e0 : (((keepDstM c).view.emb j : S4096x512.Idx) 0).val = 2048 * (c.val % 2) + (j 0).val :=
    (ValueKit.view_emb_slice_whole_unit_val cc0_stg1_0 _ _ _ j 0).trans (congrArg (fun o : Fin 2 → ℕ => o 0 + (j 0).val) (k0_off3_eq c))
  have e1 : (((keepDstM c).view.emb j : S4096x512.Idx) 1).val = (j 1).val :=
    (ValueKit.view_emb_slice_whole_unit_val cc0_stg1_0 _ _ _ j 1).trans ((congrArg (fun o : Fin 2 → ℕ => o 1 + (j 1).val) (k0_off3_eq c)).trans (Nat.zero_add _))
  have s0 : (((keepSrcM c).view.emb j : S2048x1024.Idx) 0).val = (j 0).val :=
    (ValueKit.view_emb_slice_whole_unit_val cc0_stg0_0 _ _ _ j 0).trans ((congrArg (fun o : Fin 2 → ℕ => o 0 + (j 0).val) (k0_off4_eq c)).trans (Nat.zero_add _))
  have s1 : (((keepSrcM c).view.emb j : S2048x1024.Idx) 1).val = 512 * (c.val % 2) + (j 1).val :=
    (ValueKit.view_emb_slice_whole_unit_val cc0_stg0_0 _ _ _ j 1).trans (congrArg (fun o : Fin 2 → ℕ => o 1 + (j 1).val) (k0_off4_eq c))
  rw [View.write_emb_of_mem _ _ (Finset.mem_univ j)]
  refine outAt_eq m ρ c c _ _ ?_ ?_ ?_
  · simp only [srcDev]; rw [e0]; split <;> omega
  · rw [e0, s0]; omega
  · rw [e1, s1]

/-! ## The parts of the staging buffers, as resources -/

/-- The elements `I` of `c`'s result at contents `f`; -/
def oAt (c : Dev nD) (I : Finset S4096x512.Idx) (f : (cc0_stg1_0 : Ref sig .tc).ty.Contents (Elt F)) : sProp 𝕄 :=
  ((c : Thread nD τ).loc cc0_stg1_0) ↦[I]{fullShare} f
/-- and the elements `I` of its operand, as staged. -/
def xAt (c : Dev nD) (I : Finset S2048x1024.Idx) : sProp 𝕄 :=
  ((c : Thread nD τ).loc cc0_stg0_0) ↦[I]{fullShare} xstg m ρ c

instance oAt_storable (c : Dev nD) (I f) : BI.Storable (upEmb : UEmb _ 𝕄) (oAt (F := F) c I f) := by unfold oAt; infer_instance
instance xAt_storable (c : Dev nD) (I) : BI.Storable (upEmb : UEmb _ 𝕄) (xAt (F := F) m ρ c I) := by unfold xAt; infer_instance

/-- The places for the `y` neighbour's chunks in `c`'s result, and for the `x` neighbour's, at any contents. -/
def roomA (c : Dev nD) : sProp 𝕄 := bigSep Finset.univ fun k : Fin 32 => iprop(∃ f, oAt c (setA c k) f)
def roomB (c : Dev nD) : sProp 𝕄 := bigSep Finset.univ fun k : Fin 32 => iprop(∃ f, oAt c (setB c k) f)

instance roomA_storable (c : Dev nD) : BI.Storable (upEmb : UEmb _ 𝕄) (roomA (F := F) c) := by unfold roomA; infer_instance
instance roomB_storable (c : Dev nD) : BI.Storable (upEmb : UEmb _ 𝕄) (roomB (F := F) c) := by unfold roomB; infer_instance

section Parts
variable {ℓ : Loc nD τ sig} {f : Buf (Elt F) ℓ}

/-- A family of pairwise disjoint regions and one more disjoint from them all, together. -/
theorem parts_two (H : Finset (Idx ℓ)) (A : Fin 32 → Finset (Idx ℓ)) (hA : ∀ k k', k ≠ k' → Disjoint (A k) (A k'))
    (hH : ∀ k, Disjoint H (A k)) :
    (ℓ ↦[H ∪ Finset.univ.biUnion A]{fullShare} f : sProp 𝕄) = iprop((ℓ ↦[H]{fullShare} f) ∗ bigSep Finset.univ fun k => ℓ ↦[A k]{fullShare} f) := by
  have h : (ℓ ↦[H ∪ Finset.univ.biUnion A]{fullShare} f : sProp 𝕄) ⊣⊢ _ :=
    pointsTo_union ((Finset.disjoint_biUnion_right _ _ _).mpr fun k _ => hH k)
  rw [BI.equiv_iff.mp ⟨h.1, h.2⟩, pointsTo_biUnion Finset.univ A fun k _ k' _ => hA k k']

/-- What is left of a buffer beside a region and a family of regions. -/
def restOf (H : Finset (Idx ℓ)) (A : Fin 32 → Finset (Idx ℓ)) : Finset (Idx ℓ) := Finset.univ \ (H ∪ Finset.univ.biUnion A)

/-- A whole buffer is a region, a family of regions, all disjoint, and the rest. -/
theorem parts_rest (H : Finset (Idx ℓ)) (A : Fin 32 → Finset (Idx ℓ)) (hA : ∀ k k', k ≠ k' → Disjoint (A k) (A k'))
    (hH : ∀ k, Disjoint H (A k)) :
    (ℓ ↦{fullShare} f : sProp 𝕄)
      = iprop(((ℓ ↦[H]{fullShare} f) ∗ bigSep Finset.univ fun k => ℓ ↦[A k]{fullShare} f) ∗ ℓ ↦[restOf H A]{fullShare} f) := by
  rw [← parts_two H A hA hH]
  have h : (ℓ ↦{fullShare} f : sProp 𝕄) ⊣⊢ _ := pointsTo_split_subset (Finset.subset_univ (H ∪ Finset.univ.biUnion A))
  exact BI.equiv_iff.mp ⟨h.1, h.2⟩

/-- A whole buffer is a region and two families of regions that are disjoint and cover it. -/
theorem parts_three (H : Finset (Idx ℓ)) (A B : Fin 32 → Finset (Idx ℓ)) (hA : ∀ k k', k ≠ k' → Disjoint (A k) (A k'))
    (hB : ∀ k k', k ≠ k' → Disjoint (B k) (B k')) (hHA : ∀ k, Disjoint H (A k)) (hHB : ∀ k, Disjoint H (B k))
    (hAB : ∀ k k', Disjoint (A k) (B k')) (hall : ∀ i, i ∈ H ∨ (∃ k, i ∈ A k) ∨ ∃ k, i ∈ B k) :
    (ℓ ↦{fullShare} f : sProp 𝕄)
      = iprop(((ℓ ↦[H]{fullShare} f) ∗ bigSep Finset.univ fun k => ℓ ↦[A k]{fullShare} f) ∗ bigSep Finset.univ fun k => ℓ ↦[B k]{fullShare} f) := by
  have hu : (Finset.univ : Finset (Idx ℓ)) = (H ∪ Finset.univ.biUnion A) ∪ Finset.univ.biUnion B := by
    symm; rw [Finset.eq_univ_iff_forall]; intro i
    rcases hall i with h | ⟨k, h⟩ | ⟨k, h⟩
    · exact Finset.mem_union_left _ (Finset.mem_union_left _ h)
    · exact Finset.mem_union_left _ (Finset.mem_union_right _ (Finset.mem_biUnion.mpr ⟨k, Finset.mem_univ _, h⟩))
    · exact Finset.mem_union_right _ (Finset.mem_biUnion.mpr ⟨k, Finset.mem_univ _, h⟩)
  rw [hu, parts_two (H ∪ Finset.univ.biUnion A) B hB fun k =>
    Finset.disjoint_union_left.mpr ⟨hHB k, (Finset.disjoint_biUnion_left _ _ _).mpr fun k' _ => hAB k' k⟩, parts_two H A hA hHA]

end Parts

/-- The result's buffer is its half and its two families of chunks. -/
theorem oAt_parts (c : Dev nD) (f : (cc0_stg1_0 : Ref sig .tc).ty.Contents (Elt F)) :
    oAt c Finset.univ f = iprop((oAt c (setH c) f ∗ bigSep Finset.univ fun k : Fin 32 => oAt c (setA c k) f) ∗ bigSep Finset.univ fun k : Fin 32 => oAt c (setB c k) f) := by
  unfold oAt
  exact parts_three (ℓ := (c : Thread nD τ).loc cc0_stg1_0) (setH c) (setA c) (setB c) (setA_disj c) (setA_disj (xp c)) (setHA_disj c) (setHB_disj c) (setAB_disj c) (sets_all c)

/-- The part of the operand that no transfer touches. -/
def xRest (c : Dev nD) : Finset S2048x1024.Idx := restOf (ℓ := (c : Thread nD τ).loc cc0_stg0_0) (srcH c) (srcs c)

/-- The operand's buffer is its half, its chunks and the rest. -/
theorem xAt_parts (c : Dev nD) :
    xAt m ρ c Finset.univ = iprop((xAt m ρ c (srcH c) ∗ bigSep Finset.univ fun k : Fin 32 => xAt m ρ c (srcs c k)) ∗ xAt m ρ c (xRest c)) := by
  unfold xAt xRest
  exact parts_rest (ℓ := (c : Thread nD τ).loc cc0_stg0_0) (srcH c) (srcs c) (srcs_disj c) (srcH_disj c)

/-! ## The schedule -/

/-- What duty `b` of `c`'s semaphore of a role hands over. -/
def pay (c : Dev nD) (b : Bool) : Role → sProp 𝕄
  | .bar => if b then roomB (xp c) else roomA (yp c)
  | .keep => iprop(xAt m ρ c (srcH c) ∗ oAt c (setH c) (outAt m ρ c))
  | .ySend k => xAt m ρ c (srcs c k)
  | .yRecv k => oAt c (setA c k) (outAt m ρ c)
  | .xSend k => oAt c (setA c k) (outAt m ρ c)
  | .xRecv k => oAt c (setB c k) (outAt m ρ c)

instance pay_storable (c : Dev nD) (b : Bool) (r : Role) : BI.Storable (upEmb : UEmb _ 𝕄) (pay (F := F) m ρ c b r) := by
  rcases r with ⟨⟩ | ⟨⟩ | k | k | k | k <;> simp only [pay] <;> (try split) <;> infer_instance

/-- The duties of a role, and the units of each. -/
def dutiesOf : Role → Finset Bool
  | .bar => Finset.univ
  | _ => {false}
def unitsOf : Role → ℕ
  | .bar => 1
  | .keep => NK
  | _ => N

theorem unitsOf_pos (r : Role) : 0 < unitsOf r := by
  rcases r with ⟨⟩ | ⟨⟩ | k | k | k | k
  · exact Nat.one_pos
  · exact NK_pos
  all_goals exact N_pos

/-- One round, round 0, on every semaphore with a role. -/
def Rd : Rounds.Schedule (GSem nD τ sig) Bool 𝕄 where
  duties g r := if r = 0 ∧ g.1.2 = .tc then (role g.2).elim ∅ dutiesOf else ∅
  unitless _ := False
  amount g _ _ := (role g.2).elim 1 unitsOf
  payload g _ b := (role g.2).elim iprop(emp) (pay m ρ g.1.1 b)
  amount_pos g _ _ _ := by
    cases role g.2 with
    | none => exact Nat.one_pos
    | some r => exact unitsOf_pos r

instance Rd_payload_storable (g : GSem nD τ sig) (r : ℕ) (b : Bool) : BI.Storable (upEmb : UEmb _ 𝕄) ((Rd (F := F) m ρ).payload g r b) := by
  show BI.Storable upEmb ((role g.2).elim iprop(emp) (pay m ρ g.1.1 b))
  cases role g.2 <;> simp only [Option.elim] <;> infer_instance

section Facts
variable (c : Dev nD) (r : Role) (b : Bool)

theorem duties_cell : (Rd (F := F) m ρ).duties (cell c r) 0 = dutiesOf r := by
  dsimp only [Rd]; rw [if_pos ⟨rfl, rfl⟩, role_csem]; rfl
theorem duties_later (g : GSem nD τ sig) : ∀ n, 1 ≤ n → (Rd (F := F) m ρ).duties g n = ∅ :=
  fun n hn => by dsimp only [Rd]; rw [if_neg fun h => by omega]
theorem amount_cell : (Rd (F := F) m ρ).amount (cell c r) 0 b = unitsOf r := by dsimp only [Rd]; rw [role_csem]; rfl
theorem payload_cell : (Rd (F := F) m ρ).payload (cell c r) 0 b = pay m ρ c b r := by dsimp only [Rd]; rw [role_csem]; rfl

theorem expect_bar : (Rd (F := F) m ρ).expect (cell c .bar) 0 = 2 := by
  unfold Schedule.expect Schedule.amountOf
  rw [duties_cell, Finset.sum_congr rfl fun d _ => amount_cell m ρ c .bar d]; rfl
theorem expect_own (o : Own) : (Rd (F := F) m ρ).expect (cell c (.inr o)) 0 = unitsOf (.inr o) := by
  unfold Schedule.expect Schedule.amountOf
  rw [duties_cell, Finset.sum_congr rfl fun d _ => amount_cell m ρ c (.inr o) d]; exact Finset.sum_singleton _ _

/-- All that the barrier hands over: the two neighbours' places. -/
theorem rest_bar : bigSep ((Rd (F := F) m ρ).duties (cell c .bar) 0 \ ∅) (fun d => (Rd (F := F) m ρ).payload (cell c .bar) 0 d) = iprop(roomA (yp c) ∗ roomB (xp c)) := by
  rw [Finset.sdiff_empty, duties_cell]
  show bigSep Finset.univ _ = _
  rw [bigSep_univ_eq_bigSepL [false, true] (by decide) (by decide), bigSepL_cons_cons, bigSepL_singleton, payload_cell, payload_cell]
  rfl
theorem rest_own (o : Own) : bigSep ((Rd (F := F) m ρ).duties (cell c (.inr o)) 0 \ ∅) (fun d => (Rd (F := F) m ρ).payload (cell c (.inr o)) 0 d) = pay m ρ c false (.inr o) := by
  rw [Finset.sdiff_empty, duties_cell]
  show bigSep {false} _ = _
  rw [bigSep_singleton, payload_cell]
end Facts

/-! ## What a device owes -/

/-- The last `n` chunks. -/
def lastN (n : ℕ) : Finset (Fin 32) := Finset.univ.filter fun k => 32 ≤ k.val + n

/-- The chunk that the step with `n + 1` chunks left treats. -/
abbrev ck (n : ℕ) (h : n + 1 ≤ 32) : Fin 32 := ⟨31 - n, by omega⟩

theorem mem_lastN {n : ℕ} {k : Fin 32} : k ∈ lastN n ↔ 32 ≤ k.val + n := by simp [lastN]
theorem lastN_zero : lastN 0 = ∅ := Finset.eq_empty_of_forall_notMem fun k hk => by have := mem_lastN.mp hk; have := k.isLt; omega
theorem lastN_all : lastN 32 = Finset.univ := Finset.eq_univ_of_forall fun k => mem_lastN.mpr (by omega)
theorem ck_notMem (n : ℕ) (h : n + 1 ≤ 32) : ck n h ∉ lastN n := fun hk => by have := mem_lastN.mp hk; dsimp only at this; omega
theorem lastN_succ (n : ℕ) (h : n + 1 ≤ 32) : lastN (n + 1) = insert (ck n h) (lastN n) := by
  ext k; rw [Finset.mem_insert, mem_lastN, mem_lastN, Fin.ext_iff]; dsimp only; omega

/-- The credit of the transfers still to be made: for the last `n` chunks, to the `y` neighbour and to the `x` neighbour. -/
def yOwed (c : Dev nD) (n : ℕ) : CellTallies nD τ sig Unit := ∑ k ∈ lastN n, tallyAt (cell (yp c) (.yRecv k)) () N
def xOwed (c : Dev nD) (n : ℕ) : CellTallies nD τ sig Unit := ∑ k ∈ lastN n, tallyAt (cell (xp c) (.xRecv k)) () N

theorem yOwed_succ (c : Dev nD) (n : ℕ) (h : n + 1 ≤ 32) : yOwed c (n + 1) = yOwed c n + tallyAt (cell (yp c) (.yRecv (ck n h))) () N := by
  unfold yOwed; rw [lastN_succ n h, Finset.sum_insert (ck_notMem n h), add_comm]
theorem xOwed_succ (c : Dev nD) (n : ℕ) (h : n + 1 ≤ 32) : xOwed c (n + 1) = xOwed c n + tallyAt (cell (xp c) (.xRecv (ck n h))) () N := by
  unfold xOwed; rw [lastN_succ n h, Finset.sum_insert (ck_notMem n h), add_comm]
theorem yOwed_zero (c : Dev nD) : yOwed c 0 = 0 := by unfold yOwed; rw [lastN_zero, Finset.sum_empty]
theorem xOwed_zero (c : Dev nD) : xOwed c 0 = 0 := by unfold xOwed; rw [lastN_zero, Finset.sum_empty]

/-- At launch a device owes every transfer and a unit to each neighbour's barrier, summed in the order of payment, last first. -/
def O₁ (c : Dev nD) : CellTallies nD τ sig Unit := (xOwed c 32 + yOwed c 32) + tallyAt (cell (xp c) .bar) () 1
def O₀ (c : Dev nD) : CellTallies nD τ sig Unit := O₁ c + tallyAt (cell (yp c) .bar) () 1

/-! ## The levels -/

def L (g : GSem nD τ sig) : Finset Unit := if g.1.2 = .tc then {()} else ∅
def lvOf : Role → ℕ
  | .bar => 1
  | .yRecv _ => 2
  | .xRecv _ => 3
  | _ => 0
def lv (g : GSem nD τ sig) (_ : Unit) : ℕ := (role g.2).elim 0 lvOf

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (r : Role) : lv (cell c r) () = lvOf r := by unfold lv; rw [role_csem]; rfl

/-- All that is owed in `O` lies above level `n`. -/
def Above (n : ℕ) (O : CellTallies nD τ sig Unit) : Prop := ∀ g u, 0 < O g u → g.1.2 = .tc ∧ n < lv g u

theorem Above.zero (n : ℕ) : Above n 0 := fun _ _ h => absurd h (Nat.lt_irrefl 0)
theorem Above.add {n : ℕ} {O P : CellTallies nD τ sig Unit} (hO : Above n O) (hP : Above n P) : Above n (O + P) := fun g u h => by
  rw [Pi.add_apply, Finsupp.add_apply] at h
  rcases Nat.eq_zero_or_pos (O g u) with h0 | h0
  · exact hP g u (by omega)
  · exact hO g u h0
theorem Above.tally {n : ℕ} (c : Dev nD) (r : Role) (k : ℕ) (h : n < lvOf r) : Above n (tallyAt (cell c r) () k) := fun g u hg => by
  rw [tallyAt_apply] at hg
  by_cases hc : g = cell c r ∧ u = ()
  · rw [hc.1]; exact ⟨rfl, by rw [lv_cell]; exact h⟩
  · rw [if_neg hc] at hg; exact absurd hg (Nat.lt_irrefl 0)
theorem Above.sum {n : ℕ} (S : Finset (Fin 32)) (T : Fin 32 → CellTallies nD τ sig Unit) (h : ∀ k, Above n (T k)) : Above n (∑ k ∈ S, T k) := by
  induction S using Finset.induction_on with
  | empty => rw [Finset.sum_empty]; exact Above.zero n
  | insert k S hk ih => rw [Finset.sum_insert hk]; exact (h k).add ih

theorem above_y (c : Dev nD) (n : ℕ) : Above 1 (yOwed c n) := Above.sum _ _ fun _ => Above.tally _ _ _ (Nat.lt_succ_self 1)
theorem above_x (c : Dev nD) (n : ℕ) : Above 2 (xOwed c n) := Above.sum _ _ fun _ => Above.tally _ _ _ (Nat.lt_succ_self 2)
theorem Above.mono {n n' : ℕ} {O : CellTallies nD τ sig Unit} (h : n' ≤ n) (hO : Above n O) : Above n' O := fun g u hg =>
  ⟨(hO g u hg).1, lt_of_le_of_lt h (hO g u hg).2⟩
theorem above_O₀ (c : Dev nD) : Above 0 (O₀ c) :=
  ((((above_x c 32).mono (by decide)).add ((above_y c 32).mono (by decide))).add (Above.tally _ _ _ (by decide))).add (Above.tally _ _ _ (by decide))

/-- A device may wait on a semaphore while all that it owes lies above that semaphore's level. -/
theorem mayWait_above (c : Dev nD) (sm : SemLoc sig) (n : ℕ) (hn : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

end Cert.KernelIdealProof

end
-- ==== Proof.Rules.lean ====
/-
The rules the body is executed by: a transfer to another device, the local copy and a wait, each at the roles of its
semaphores; and the rule for a step repeated for every chunk.
-/
module

public import proofs.«01_k».proof.Proof.Schedule

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a part of the body on device `c`. -/
abbrev wpc (c : Dev nD) (p : Body (F := F)) (Q : PUnit → sProp 𝕄) : sProp 𝕄 :=
  wp frame (wpE (defs₀ (F := F)) 𝒱₀ (c : Thread nD τ) none) Set.univ p Q

/-! ## What all devices know -/

/-- The invariant of every semaphore, at the names `K`, and that each is at its first round. -/
def records (K : Dev nD × Role → ℕ) : sProp 𝕄 :=
  iprop((bigSep Finset.univ fun p : Dev nD × Role => cellInv ER (Rd m ρ) (K p) (cell p.1 p.2))
    ∗ bigSep Finset.univ fun p : Dev nD × Role => reached ER (cell p.1 p.2) 0)

instance records_persistent (K : Dev nD × Role → ℕ) : BI.Persistent (records m ρ K) := by unfold records; infer_instance

variable (K : Dev nD × Role → ℕ)

theorem at_pair (Φ : Dev nD × Role → sProp 𝕄) (c : Dev nD) (r : Role) : bigSep Finset.univ Φ ⊢ Φ (c, r) := bigSep_elim (Finset.mem_univ (c, r))
theorem inv_at (c : Dev nD) (r : Role) : records m ρ K ⊢ cellInv ER (Rd m ρ) (K (c, r)) (cell c r) := by
  unfold records
  iintro ⟨#HI, -⟩
  iapply (at_pair (fun p : Dev nD × Role => cellInv ER (Rd m ρ) (K p) (cell p.1 p.2)) c r); iexact HI
theorem reached_at (c : Dev nD) (r : Role) : records m ρ K ⊢ (reached ER (cell c r) 0 : sProp 𝕄) := by
  unfold records
  iintro ⟨-, #HR⟩
  iapply (at_pair (fun p : Dev nD × Role => (reached ER (cell p.1 p.2) 0 : sProp 𝕄)) c r); iexact HR

theorem false_mem (r : Role) : false ∈ dutiesOf r := by
  rcases r with ⟨⟩ | ⟨⟩ | k | k | k | k
  · exact Finset.mem_univ _
  all_goals exact Finset.mem_singleton_self _

/-! ## One step -/

/-- A transfer of a chunk to device `c'` (named `n` in the program), paying the duty of `c`'s semaphore of role `rS` once it
    has left and that of `c'`'s of role `rR` once it has landed. -/
theorem wp_send_role (c c' n : Dev nD) (hn : n = c') {src dst : Memref sig .tc .vmem S32x512 .f32} (rS rR : Own)
    {hsc : (dst : Memref sig (Dev.tc n : Thread nD τ).2.kind .vmem S32x512 .f32).view.ref.isScScratch = false}
    {hsrc : src.view.WordExact} {hdst : dst.view.WordExact}
    {hsem : DmaTarget.Typed .vmem (csem (.inr rR)) (.remote (Dev.tc n : Thread nD τ) dst (csem (.inr rS)) hsc)}
    (fs : Buf (Elt F) (src.view.loc (c : Thread nD τ))) (fd : Buf (Elt F) (dst.view.loc (c' : Thread nD τ)))
    (hN : dst.view.amount (csem (.inr rR)) = N) (hS : unitsOf (.inr rS) = N) (hR : unitsOf (.inr rR) = N)
    (hpayS : (src.view.loc (c : Thread nD τ) ↦[src.view.set]{fullShare} fs : sProp 𝕄) ⊢ pay m ρ c false (.inr rS))
    (hpayR : (dst.view.loc (c' : Thread nD τ) ↦[dst.view.set]{fullShare} (dst.view.write (Elt F) fd (src.view.read (Elt F) fs) Finset.univ) : sProp 𝕄)
      ⊢ pay m ρ c' false (.inr rR))
    (O : CellTallies nD τ sig Unit) (W : Waits sig Unit) (p : Body (F := F)) (Q : PUnit → sProp 𝕄) :
    iprop(records m ρ K ∗ (src.view.loc (c : Thread nD τ) ↦[src.view.set]{fullShare} fs)
        ∗ (dst.view.loc (c' : Thread nD τ) ↦[dst.view.set]{fullShare} fd)
        ∗ dutyTok ER (cell c (.inr rS)) 0 false ∗ dutyTok ER (cell c' (.inr rR)) 0 false
        ∗ owes (c : Thread nD τ) (O + tallyAt (cell c' (.inr rR)) () N) W)
      ⊢ iprop(((cred (tallyAt (cell c (.inr rS)) () N) ∗ owes (c : Thread nD τ) O W) -∗ wpc c p Q)
          -∗ wpc c (.op (.enqueueDma src (.remote (Dev.tc n : Thread nD τ) dst (csem (.inr rS)) hsc) (csem (.inr rR)) hsrc hdst hsem) fun _ => p) Q) := by
  subst hn
  iintro ⟨#HR, Hs, Hd, HtS, HtR, HO⟩ Hk
  iapply (Rounds.wp_send_pointsTo 𝒱₀ ER (Rd m ρ) (c : Thread nD τ) none (κ₁ := K (c, .inr rS)) (κ₂ := K (n, .inr rR))
    (r₁ := 0) (r₂ := 0) (d₁ := false) (d₂ := false) (fd := fd)
    (by rw [duties_cell m ρ c]; exact false_mem _) (by rw [duties_cell m ρ n]; exact false_mem _)
    () () N hN ((amount_cell m ρ c _ false).trans hS) ((amount_cell m ρ n _ false).trans hR) O rfl (W := W)
    (by rw [payload_cell m ρ c]; exact hpayS) (by rw [payload_cell m ρ n]; exact hpayR)) $$ [Hs Hd HtS HtR HO]
  · isplitr; · iapply (inv_at m ρ K c (.inr rS)); iexact HR
    isplitr; · iapply (inv_at m ρ K n (.inr rR)); iexact HR
    isplitl [Hs]; · iexact Hs
    isplitl [Hd]; · iexact Hd
    isplitl [HO]; · iexact HO
    isplitl [HtS]; · iexact HtS
    isplitr; · iapply (reached_at m ρ K c (.inr rS)); iexact HR
    isplitl [HtR]; · iexact HtR
    iapply (reached_at m ρ K n (.inr rR)); iexact HR
  iintro H
  iapply Hk; iexact H

/-- A wait on a semaphore that belongs to the launch, for all its units, while what is owed lies above its level. -/
theorem wp_wait_role (c : Dev nD) (o : Own) {q : DmaSem sig} (hq : csem (.inr o) = .dma q) {s s' : Shape}
    {src : Memref sig .tc .vmem s' .f32} {dst : Memref sig .tc .vmem s .f32} {hsrc : src.view.WordExact} {hdst : dst.view.WordExact}
    (hN : dst.view.dmaCredit = unitsOf (.inr o))
    (O : CellTallies nD τ sig Unit) (hO : Above (lvOf (.inr o)) O) (W : Waits sig Unit) (p : Body (F := F)) (Q : PUnit → sProp 𝕄) :
    iprop((records m ρ K ∗ levAts L lv) ∗ cred (tallyAt (cell c (.inr o)) () (unitsOf (.inr o))) ∗ atPos ER (cell c (.inr o)) 0 ∅ 0 ∗ owes (c : Thread nD τ) O W)
      ⊢ iprop((((∃ W', owes (c : Thread nD τ) O W') ∗ atPos ER (cell c (.inr o)) 1 ∅ 0 ∗ pay m ρ c false (.inr o)) -∗ wpc c p Q)
          -∗ wpc c (.op (.waitDma2 q src dst hsrc hdst) fun _ => p) Q) := by
  have hlv : lv ((c : Thread nD τ), .dma q) () ≤ lvOf (.inr o) := by rw [← hq]; exact le_of_eq (lv_cell c _)
  iintro ⟨⟨#HR, #Hlev⟩, Hc, Ha, HO⟩ Hk
  iapply (Rounds.wp_wait_rest_token 𝒱₀ ER (Rd m ρ) (c : Thread nD τ) none (κ := K (c, .inr o))
      (wpE_waitDma2_eq 𝒱₀ (c : Thread nD τ) none Set.univ) (Set.mem_univ _) () (O := O) (W := W) (R := 0) (m := 0) (T := ∅)
      (by rw [Nat.zero_add, hN, ← hq]; exact (expect_own m ρ c o).symm)) $$ [Hc HO Ha]
  · rw [← hq, hN]
    isplitr; · iapply (inv_at m ρ K c (.inr o)); iexact HR
    isplitl [Hc]; · iexact Hc
    isplitl [HO]; · iexact HO
    isplitr
    · rw [hq]; iapply (mayWait_above c (.dma q) _ hlv O hO); iexact Hlev
    iexact Ha
  iintro ⟨HO, Ha, -, Hp⟩
  rw [← hq]
  iapply Hk
  isplitl [HO]; · iexists _; iexact HO
  isplitl [Ha]; · iexact Ha
  iapply (Entails.of_eq (rest_own m ρ c o)); iexact Hp

/-! ## A step for every chunk -/

/-- What holds of the last `n + 1` chunks, the first of them apart. -/
theorem lastN_sep (n : ℕ) (h : n + 1 ≤ 32) (P : Fin 32 → sProp 𝕄) :
    bigSep (lastN (n + 1)) P = iprop(P (ck n h) ∗ bigSep (lastN n) P) := by
  rw [lastN_succ n h]; exact bigSep_insert (ck_notMem n h)

/-- A step that turns `P k` into `P' k` and what is owed from `Ow (n + 1)` to `Ow n`, where `k` is the chunk treated with `n + 1` chunks
    left, turns, done for the last `n` chunks, the `P k` of all into their `P' k`. -/
theorem wp_chunks (c : Dev nD) (f : Fin 32 → Body (F := F) → Body (F := F)) (R : sProp 𝕄) [BI.Persistent R] (P P' : Fin 32 → sProp 𝕄)
    (Ow : ℕ → CellTallies nD τ sig Unit) (Q : PUnit → sProp 𝕄)
    (hstep : ∀ (n : ℕ) (h : n + 1 ≤ 32) (W : Waits sig Unit) (p : Body (F := F)),
      iprop(R ∗ P (ck n h) ∗ owes (c : Thread nD τ) (Ow (n + 1)) W)
        ⊢ iprop((((∃ W', owes (c : Thread nD τ) (Ow n) W') ∗ P' (ck n h)) -∗ wpc c p Q) -∗ wpc c (f (ck n h) p) Q))
    (p : Body (F := F)) (n : ℕ) : ∀ (h : n ≤ 32) (W : Waits sig Unit),
      iprop(R ∗ bigSep (lastN n) P ∗ owes (c : Thread nD τ) (Ow n) W)
        ⊢ iprop((((∃ W', owes (c : Thread nD τ) (Ow 0) W') ∗ bigSep (lastN n) P') -∗ wpc c p Q) -∗ wpc c (chunks f p n h) Q) := by
  induction n with
  | zero =>
    intro h W
    rw [lastN_zero, bigSep_empty, bigSep_empty]
    show _ ⊢ iprop(_ -∗ wpc c p Q)
    iintro ⟨-, -, HO⟩ Hk
    iapply Hk
    isplitl [HO]; · iexists W; iexact HO
    iempintro
  | succ n ih =>
    intro h W
    rw [lastN_sep n h, lastN_sep n h]
    show _ ⊢ iprop(_ -∗ wpc c (f (ck n h) (chunks f p n (Nat.le_of_succ_le h))) Q)
    iintro ⟨#HR, ⟨HP, HPs⟩, HO⟩ Hk
    iapply (hstep n h W (chunks f p n (Nat.le_of_succ_le h))) $$ [HP HO]
    · isplitr; · iexact HR
      isplitl [HP] <;> iassumption
    iintro ⟨⟨%W', HO⟩, HP'⟩
    iapply (ih (Nat.le_of_succ_le h) W') $$ [HPs HO]
    · isplitr; · iexact HR
      isplitl [HPs] <;> iassumption
    iintro ⟨HO, HPs'⟩
    iapply Hk
    isplitl [HO]; · iexact HO
    isplitl [HP'] <;> iassumption

end Cert.KernelIdealProof

end
-- ==== Proof.Body.lean ====
/-
The body on device `c`, after the barrier: each kind of step once, at a symbolic chunk; then the loops.
-/
module

public import proofs.«01_k».proof.Proof.Rules

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Role → ℕ)

/-- Equal offsets, equal regions. -/
theorem unit_set {o o' : Fin 2 → ℕ} (h : o = o') (i : ∀ a, o a + S32x512.size a ≤ S4096x512.size a) (i' : ∀ a, o' a + S32x512.size a ≤ S4096x512.size a) :
    (Rect.unit (s := S4096x512) o S32x512.size i).set = (Rect.unit (s := S4096x512) o' S32x512.size i').set := by subst h; rfl

/-- Where `c`'s chunk lands on its `y` neighbour is that device's own place for it; the same of the `x` neighbour. -/
theorem dst_set (c : Dev nD) (k : Fin 32) : (dstM c k).view.set = setA (yp c) k :=
  (View.set_slice_whole cc0_stg1_0 _).trans ((unit_set (by
    rw [k0_off1_eq, k0_off5_eq, yp_x, yp_y]; have := y_le c; congr 1; omega) _ _).trans (View.set_slice_whole cc0_stg1_0 _).symm)
theorem setB_xp (c : Dev nD) (k : Fin 32) : setB (xp c) k = setA c k := by unfold setB; rw [xp_xp]

/-- Every chunk's transfer has the same credit, whichever view of it is waited for. -/
theorem credit_src (c : Dev nD) (k : Fin 32) : (srcM c k).view.dmaCredit = N := rfl
theorem credit_dst (c : Dev nD) (k : Fin 32) : (dstM c k).view.dmaCredit = N := rfl
theorem credit_fwd (c : Dev nD) (k : Fin 32) : (fwdM c k).view.dmaCredit = N := rfl
theorem credit_keep (c : Dev nD) : (keepDstM c).view.dmaCredit = NK := rfl

/-- What a transfer leaves behind and what it lands as are what its two semaphores hand over. -/
theorem left_y (c : Dev nD) (k : Fin 32) :
    ((srcM c k).view.loc (c : Thread nD τ) ↦[(srcM c k).view.set]{fullShare} xstg m ρ c : sProp 𝕄) ⊢ pay m ρ c false (.ySend k) := by
  simp only [pay]; unfold xAt; exact BI.Entails.refl _
theorem there_y (c : Dev nD) (k : Fin 32) (fd : (cc0_stg1_0 : Ref sig .tc).ty.Contents (Elt F)) :
    ((dstM c k).view.loc (yp c : Thread nD τ) ↦[(dstM c k).view.set]{fullShare}
      ((dstM c k).view.write (Elt F) fd ((srcM c k).view.read (Elt F) (xstg m ρ c)) Finset.univ) : sProp 𝕄) ⊢ pay m ρ (yp c) false (.yRecv k) := by
  simp only [pay]; rw [← dst_set]; unfold oAt
  exact Entails.of_eq (pointsTo_congr (landed_y m ρ c k fd))
theorem left_x (c : Dev nD) (k : Fin 32) :
    ((fwdM c k).view.loc (c : Thread nD τ) ↦[(fwdM c k).view.set]{fullShare} outAt m ρ c : sProp 𝕄) ⊢ pay m ρ c false (.xSend k) := by
  simp only [pay]; unfold oAt; exact BI.Entails.refl _
theorem there_x (c : Dev nD) (k : Fin 32) (fd : (cc0_stg1_0 : Ref sig .tc).ty.Contents (Elt F)) :
    ((fwdM c k).view.loc (xp c : Thread nD τ) ↦[(fwdM c k).view.set]{fullShare}
      ((fwdM c k).view.write (Elt F) fd ((fwdM c k).view.read (Elt F) (outAt m ρ c)) Finset.univ) : sProp 𝕄) ⊢ pay m ρ (xp c) false (.xRecv k) := by
  simp only [pay]; rw [setB_xp]; unfold oAt
  exact Entails.of_eq (pointsTo_congr (landed_x m ρ c k fd))

/-! ## The steps -/

/-- The transfer of chunk `k` to the `y` neighbour: the chunk of the operand and the place for it there go, and the credit for its
    having left comes. -/
theorem step_ySend (c : Dev nD) (k : Fin 32) (fd : (cc0_stg1_0 : Ref sig .tc).ty.Contents (Elt F))
    (O : CellTallies nD τ sig Unit) (W : Waits sig Unit) (p : Body (F := F)) (Q : PUnit → sProp 𝕄) :
    iprop(records m ρ K ∗ xAt m ρ c (srcs c k) ∗ oAt (yp c) (setA (yp c) k) fd
        ∗ dutyTok ER (cell c (.ySend k)) 0 false ∗ dutyTok ER (cell (yp c) (.yRecv k)) 0 false
        ∗ owes (c : Thread nD τ) (O + tallyAt (cell (yp c) (.yRecv k)) () N) W)
      ⊢ iprop(((cred (tallyAt (cell c (.ySend k)) () N) ∗ owes (c : Thread nD τ) O W) -∗ wpc c p Q) -∗ wpc c (ySend c k p) Q) := by
  rw [← dst_set]; unfold xAt oAt ySend
  exact wp_send_role m ρ K c (yp c) (yDev c) (yDev_eq c) (src := srcM c k) (dst := dstM c k) (.inr (.inl k)) (.inr (.inr (.inl k)))
    (hsc := rfl) (hsrc := View.wordExact_bits rfl) (hdst := View.wordExact_bits rfl) (hsem := ⟨⟨rfl, Or.inl rfl⟩, trivial⟩)
    (xstg m ρ c) fd (credit_dst c k) rfl rfl (left_y m ρ c k) (there_y m ρ c k fd) O W p Q

/-- The same to the `x` neighbour, of a chunk of the result. -/
theorem step_xSend (c : Dev nD) (k : Fin 32) (fd : (cc0_stg1_0 : Ref sig .tc).ty.Contents (Elt F))
    (O : CellTallies nD τ sig Unit) (W : Waits sig Unit) (p : Body (F := F)) (Q : PUnit → sProp 𝕄) :
    iprop(records m ρ K ∗ oAt c (setA c k) (outAt m ρ c) ∗ oAt (xp c) (setA c k) fd
        ∗ dutyTok ER (cell c (.xSend k)) 0 false ∗ dutyTok ER (cell (xp c) (.xRecv k)) 0 false
        ∗ owes (c : Thread nD τ) (O + tallyAt (cell (xp c) (.xRecv k)) () N) W)
      ⊢ iprop(((cred (tallyAt (cell c (.xSend k)) () N) ∗ owes (c : Thread nD τ) O W) -∗ wpc c p Q) -∗ wpc c (xSend c k p) Q) := by
  unfold oAt xSend
  exact wp_send_role m ρ K c (xp c) (xDev c) (xDev_eq c) (src := fwdM c k) (dst := fwdM c k) (.inr (.inr (.inr (.inl k)))) (.inr (.inr (.inr (.inr k))))
    (hsc := rfl) (hsrc := View.wordExact_bits rfl) (hdst := View.wordExact_bits rfl) (hsem := ⟨⟨rfl, Or.inl rfl⟩, trivial⟩)
    (outAt m ρ c) fd (credit_fwd c k) rfl rfl (left_x m ρ c k) (there_x m ρ c k fd) O W p Q

/-- The local copy. -/
theorem step_keep (c : Dev nD) (fd : (cc0_stg1_0 : Ref sig .tc).ty.Contents (Elt F)) (p : Body (F := F)) (Q : PUnit → sProp 𝕄) :
    iprop(records m ρ K ∗ xAt m ρ c (srcH c) ∗ oAt c (setH c) fd ∗ dutyTok ER (cell c .keep) 0 false)
      ⊢ iprop((cred (tallyAt (cell c .keep) () NK) -∗ wpc c p Q) -∗ wpc c (keep c p) Q) := by
  have h := Rounds.wp_copy_pointsTo 𝒱₀ ER (Rd (F := F) m ρ) (c : Thread nD τ) none (Γ := PendingWaitsCtx.empty) (src := keepSrcM c) (dst := keepDstM c) (sem := .dma keepS)
    (hsrc := View.wordExact_bits rfl) (hdst := View.wordExact_bits rfl) (hsem := ⟨Or.inl rfl, trivial⟩) (k := fun _ => p) (Q := Q) (Es := Set.univ)
    (q := fullShare) (fs := xstg m ρ c) (fd := fd) (r := 0) (d := false) (κ := K (c, .keep)) (defs := defs₀ (F := F))
    (by rw [show ((c : Thread nD τ), SemLoc.dma keepS) = cell c .keep from rfl, duties_cell m ρ c]; exact false_mem _) () NK rfl
    (amount_cell m ρ c .keep false)
    (by
      rw [show ((c : Thread nD τ), SemLoc.dma keepS) = cell c .keep from rfl, payload_cell m ρ c]
      simp only [pay]; unfold xAt oAt
      rw [show ∀ P R : sProp 𝕄, iprop(P ∗ R) = iprop(R ∗ P) from fun P R => BI.equiv_iff.mp ⟨sep_comm, sep_comm⟩]
      exact sep_mono_right (Entails.of_eq (pointsTo_congr (landed_keep m ρ c fd))))
  iintro ⟨#HR, Hx, Ho, Ht⟩
  iapply h
  isplitr; · iapply (inv_at m ρ K c .keep); iexact HR
  isplitl [Hx]; · unfold xAt; iexact Hx
  isplitl [Ho]; · unfold oAt; iexact Ho
  isplitl [Ht]; · iexact Ht
  iapply (reached_at m ρ K c .keep); iexact HR

/-- The wait for the local copy, at the end. -/
theorem step_keepWait (c : Dev nD) (W : Waits sig Unit) (Q : PUnit → sProp 𝕄) :
    iprop((records m ρ K ∗ levAts L lv) ∗ cred (tallyAt (cell c .keep) () NK) ∗ atPos ER (cell c .keep) 0 ∅ 0 ∗ owes (c : Thread nD τ) 0 W)
      ⊢ iprop((((∃ W', owes (c : Thread nD τ) 0 W') ∗ atPos ER (cell c .keep) 1 ∅ 0 ∗ pay m ρ c false .keep) -∗ wpc c (.ret ⟨⟩) Q) -∗ wpc c (keepWait c) Q) := by
  unfold keepWait
  exact wp_wait_role m ρ K c (.inl ()) (q := keepS) (src := keepSrcM c) (dst := keepDstM c) (hsrc := View.wordExact_bits rfl) (hdst := View.wordExact_bits rfl) rfl
    (credit_keep c) 0 (Above.zero _) W (.ret ⟨⟩) Q

/-! ## The loops -/

/-- What sending chunk `k` to the `y` neighbour takes, and what it leaves. -/
def sendP (c : Dev nD) (k : Fin 32) : sProp 𝕄 :=
  iprop(xAt m ρ c (srcs c k) ∗ (∃ f, oAt (yp c) (setA (yp c) k) f)
    ∗ dutyTok ER (cell c (.ySend k)) 0 false ∗ dutyTok ER (cell (yp c) (.yRecv k)) 0 false)
def sendP' (c : Dev nD) (k : Fin 32) : sProp 𝕄 := cred (tallyAt (cell c (.ySend k)) () N)

/-- What receiving chunk `k` from the `y` neighbour and passing it on takes, and what it leaves. -/
def passP (c : Dev nD) (k : Fin 32) : sProp 𝕄 :=
  iprop(cred (tallyAt (cell c (.yRecv k)) () N) ∗ atPos ER (cell c (.yRecv k)) 0 ∅ 0 ∗ (∃ f, oAt (xp c) (setA c k) f)
    ∗ dutyTok ER (cell c (.xSend k)) 0 false ∗ dutyTok ER (cell (xp c) (.xRecv k)) 0 false)
def passP' (c : Dev nD) (k : Fin 32) : sProp 𝕄 :=
  iprop(atPos ER (cell c (.yRecv k)) 1 ∅ 0 ∗ cred (tallyAt (cell c (.xSend k)) () N))

/-- What the last three waits of chunk `k` take, and what they leave. -/
def lastP (c : Dev nD) (k : Fin 32) : sProp 𝕄 :=
  iprop((cred (tallyAt (cell c (.ySend k)) () N) ∗ atPos ER (cell c (.ySend k)) 0 ∅ 0)
    ∗ (cred (tallyAt (cell c (.xSend k)) () N) ∗ atPos ER (cell c (.xSend k)) 0 ∅ 0)
    ∗ (cred (tallyAt (cell c (.xRecv k)) () N) ∗ atPos ER (cell c (.xRecv k)) 0 ∅ 0))
def lastP' (c : Dev nD) (k : Fin 32) : sProp 𝕄 :=
  iprop((atPos ER (cell c (.ySend k)) 1 ∅ 0 ∗ xAt m ρ c (srcs c k))
    ∗ (atPos ER (cell c (.xSend k)) 1 ∅ 0 ∗ oAt c (setA c k) (outAt m ρ c))
    ∗ (atPos ER (cell c (.xRecv k)) 1 ∅ 0 ∗ oAt c (setB c k) (outAt m ρ c)))

/-- All chunks to the `y` neighbour. -/
theorem loop_send (c : Dev nD) (W : Waits sig Unit) (p : Body (F := F)) (Q : PUnit → sProp 𝕄) :
    iprop(records m ρ K ∗ bigSep Finset.univ (sendP m ρ c) ∗ owes (c : Thread nD τ) (xOwed c 32 + yOwed c 32) W)
      ⊢ iprop((((∃ W', owes (c : Thread nD τ) (xOwed c 32) W') ∗ bigSep Finset.univ (sendP' (F := F) c)) -∗ wpc c p Q)
          -∗ wpc c (chunks (ySend c) p 32 le_rfl) Q) := by
  have h := wp_chunks c (ySend c) (records m ρ K) (sendP m ρ c) (sendP' c) (fun n => xOwed c 32 + yOwed c n) Q ?_ p 32 le_rfl W
  · rw [lastN_all, yOwed_zero, add_zero] at h; exact h
  · intro n h W p
    simp only [yOwed_succ c n h]; rw [← add_assoc]
    unfold sendP sendP'
    iintro ⟨#HR, ⟨Hx, ⟨%f, Ho⟩, HtS, HtR⟩, HO⟩ Hk
    iapply (step_ySend m ρ K c (ck n h) f) $$ [Hx Ho HtS HtR HO]
    · isplitr; · iexact HR
      isplitl [Hx]; · iexact Hx
      isplitl [Ho]; · iexact Ho
      isplitl [HtS]; · iexact HtS
      isplitl [HtR] <;> iassumption
    iintro ⟨Hc, HO⟩
    iapply Hk
    isplitl [HO]; · iexists W; iexact HO
    iexact Hc

/-- All chunks received from the `y` neighbour and passed on. -/
theorem loop_pass (c : Dev nD) (W : Waits sig Unit) (p : Body (F := F)) (Q : PUnit → sProp 𝕄) :
    iprop((records m ρ K ∗ levAts L lv) ∗ bigSep Finset.univ (passP (F := F) c) ∗ owes (c : Thread nD τ) (xOwed c 32) W)
      ⊢ iprop((((∃ W', owes (c : Thread nD τ) 0 W') ∗ bigSep Finset.univ (passP' (F := F) c)) -∗ wpc c p Q)
          -∗ wpc c (chunks (fun k p => yWait c k (xSend c k p)) p 32 le_rfl) Q) := by
  have h := wp_chunks c (fun k p => yWait c k (xSend c k p)) iprop(records m ρ K ∗ levAts L lv) (passP c) (passP' c) (xOwed c) Q ?_ p 32 le_rfl W
  · rw [lastN_all, xOwed_zero] at h; exact h
  · intro n h W p
    unfold passP passP'
    iintro ⟨⟨#HR, #Hlev⟩, ⟨Hc, Ha, ⟨%f, Ho⟩, HtS, HtR⟩, HO⟩ Hk
    unfold yWait
    iapply (wp_wait_role m ρ K c (.inr (.inr (.inl (ck n h)))) (q := yRecvS (ck n h)) (src := srcM c (ck n h)) (dst := dstM c (ck n h)) rfl
      (credit_dst c (ck n h)) (xOwed c (n + 1)) (above_x c _) W) $$ [Hc Ha HO]
    · isplitr
      · isplitr; · iexact HR
        iexact Hlev
      isplitl [Hc]; · iexact Hc
      isplitl [Ha] <;> iassumption
    rw [xOwed_succ c n h]
    iintro ⟨⟨%W', HO⟩, Ha, Hp⟩
    iapply (step_xSend m ρ K c (ck n h) f) $$ [Hp Ho HtS HtR HO]
    · isplitr; · iexact HR
      isplitl [Hp]; · simp only [pay]; iexact Hp
      isplitl [Ho]; · iexact Ho
      isplitl [HtS]; · iexact HtS
      isplitl [HtR] <;> iassumption
    iintro ⟨Hc, HO⟩
    iapply Hk
    isplitl [HO]; · iexists W'; iexact HO
    isplitl [Ha] <;> iassumption

/-- All the last waits. -/
theorem loop_last (c : Dev nD) (W : Waits sig Unit) (p : Body (F := F)) (Q : PUnit → sProp 𝕄) :
    iprop((records m ρ K ∗ levAts L lv) ∗ bigSep Finset.univ (lastP (F := F) c) ∗ owes (c : Thread nD τ) 0 W)
      ⊢ iprop((((∃ W', owes (c : Thread nD τ) 0 W') ∗ bigSep Finset.univ (lastP' m ρ c)) -∗ wpc c p Q)
          -∗ wpc c (chunks (lastWaits c) p 32 le_rfl) Q) := by
  have h := wp_chunks c (lastWaits c) iprop(records m ρ K ∗ levAts L lv) (lastP c) (lastP' m ρ c) (fun _ => 0) Q ?_ p 32 le_rfl W
  · rw [lastN_all] at h; exact h
  · intro n h W p
    unfold lastP lastP'
    iintro ⟨#HR, ⟨⟨Hc1, Ha1⟩, ⟨Hc2, Ha2⟩, ⟨Hc3, Ha3⟩⟩, HO⟩ Hk
    unfold lastWaits
    iapply (wp_wait_role m ρ K c (.inr (.inl (ck n h))) (q := ySendS (ck n h)) (src := dstM c (ck n h)) (dst := srcM c (ck n h)) rfl
      (credit_src c (ck n h)) 0 (Above.zero _) W) $$ [Hc1 Ha1 HO]
    · isplitr; · iexact HR
      isplitl [Hc1]; · iexact Hc1
      isplitl [Ha1] <;> iassumption
    iintro ⟨⟨%W1, HO⟩, Ha1, Hp1⟩
    iapply (wp_wait_role m ρ K c (.inr (.inr (.inr (.inl (ck n h))))) (q := xSendS (ck n h)) (src := fwdM c (ck n h)) (dst := fwdM c (ck n h)) rfl
      (credit_fwd c (ck n h)) 0 (Above.zero _) W1) $$ [Hc2 Ha2 HO]
    · isplitr; · iexact HR
      isplitl [Hc2]; · iexact Hc2
      isplitl [Ha2] <;> iassumption
    iintro ⟨⟨%W2, HO⟩, Ha2, Hp2⟩
    iapply (wp_wait_role m ρ K c (.inr (.inr (.inr (.inr (ck n h))))) (q := xRecvS (ck n h)) (src := fwdM c (ck n h)) (dst := fwdM c (ck n h)) rfl
      (credit_fwd c (ck n h)) 0 (Above.zero _) W2) $$ [Hc3 Ha3 HO]
    · isplitr; · iexact HR
      isplitl [Hc3]; · iexact Hc3
      isplitl [Ha3] <;> iassumption
    iintro ⟨HO, Ha3, Hp3⟩
    iapply Hk
    isplitl [HO]; · iexact HO
    simp only [pay]
    isplitl [Ha1 Hp1]
    · isplitl [Ha1] <;> iassumption
    isplitl [Ha2 Hp2]
    · isplitl [Ha2] <;> iassumption
    isplitl [Ha3] <;> iassumption

/-! ## The loops' resources as families -/

/-- A family over the launch's own semaphores, and over all roles, kind by kind. -/
theorem own_split (Φ : Own → sProp 𝕄) :
    bigSep Finset.univ Φ = iprop(Φ (.inl ()) ∗ (bigSep Finset.univ fun k => Φ (.inr (.inl k))) ∗ (bigSep Finset.univ fun k => Φ (.inr (.inr (.inl k))))
      ∗ (bigSep Finset.univ fun k => Φ (.inr (.inr (.inr (.inl k))))) ∗ bigSep Finset.univ fun k => Φ (.inr (.inr (.inr (.inr k))))) := by
  rw [BI.bigSep_univ_sum, BI.bigSep_univ_sum, BI.bigSep_univ_sum, BI.bigSep_univ_sum, bigSep_univ_eq_bigSepL [()] (by decide) (by decide)]; rfl
theorem role_split (Φ : Role → sProp 𝕄) : bigSep Finset.univ Φ = iprop(Φ .bar ∗ bigSep Finset.univ fun o : Own => Φ (.inr o)) := by
  rw [BI.bigSep_univ_sum, bigSep_univ_eq_bigSepL [()] (by decide) (by decide)]; rfl

/-- `c`'s positions at round `n` of its own semaphores. -/
def atOwn (c : Dev nD) (n : ℕ) : sProp 𝕄 := bigSep Finset.univ fun o : Own => atPos ER (cell c (.inr o)) n ∅ 0

/-- The tokens of the duties that `c` pays after the barrier, and the credit it then waits for. -/
def toksAfter (c : Dev nD) : sProp 𝕄 :=
  iprop(dutyTok ER (cell c .keep) 0 false ∗ (bigSep Finset.univ fun k : Fin 32 => dutyTok ER (cell c (.ySend k)) 0 false)
    ∗ (bigSep Finset.univ fun k : Fin 32 => dutyTok ER (cell (yp c) (.yRecv k)) 0 false)
    ∗ (bigSep Finset.univ fun k : Fin 32 => dutyTok ER (cell c (.xSend k)) 0 false)
    ∗ bigSep Finset.univ fun k : Fin 32 => dutyTok ER (cell (xp c) (.xRecv k)) 0 false)
def credsAfter (c : Dev nD) : sProp 𝕄 :=
  iprop((bigSep Finset.univ fun k : Fin 32 => cred (tallyAt (cell c (.yRecv k)) () N))
    ∗ bigSep Finset.univ fun k : Fin 32 => cred (tallyAt (cell c (.xRecv k)) () N))

theorem sendP_all (c : Dev nD) :
    bigSep Finset.univ (sendP m ρ c) = iprop((bigSep Finset.univ fun k : Fin 32 => xAt m ρ c (srcs c k)) ∗ roomA (yp c)
      ∗ (bigSep Finset.univ fun k : Fin 32 => dutyTok ER (cell c (.ySend k)) 0 false)
      ∗ bigSep Finset.univ fun k : Fin 32 => dutyTok ER (cell (yp c) (.yRecv k)) 0 false) := by
  show bigSep Finset.univ (fun k => sendP m ρ c k) = _
  unfold sendP roomA; rw [bigSep_sep', bigSep_sep', bigSep_sep']

theorem passP_all (c : Dev nD) :
    bigSep Finset.univ (passP (F := F) c) = iprop((bigSep Finset.univ fun k : Fin 32 => cred (tallyAt (cell c (.yRecv k)) () N))
      ∗ (bigSep Finset.univ fun k : Fin 32 => atPos ER (cell c (.yRecv k)) 0 ∅ 0) ∗ roomB (xp c)
      ∗ (bigSep Finset.univ fun k : Fin 32 => dutyTok ER (cell c (.xSend k)) 0 false)
      ∗ bigSep Finset.univ fun k : Fin 32 => dutyTok ER (cell (xp c) (.xRecv k)) 0 false) := by
  show bigSep Finset.univ (fun k => passP (F := F) c k) = _
  unfold passP roomB; simp only [setB_xp]; rw [bigSep_sep', bigSep_sep', bigSep_sep', bigSep_sep']

theorem passP'_all (c : Dev nD) :
    bigSep Finset.univ (passP' (F := F) c) = iprop((bigSep Finset.univ fun k : Fin 32 => atPos ER (cell c (.yRecv k)) 1 ∅ 0)
      ∗ bigSep Finset.univ fun k : Fin 32 => cred (tallyAt (cell c (.xSend k)) () N)) := by
  show bigSep Finset.univ (fun k => passP' (F := F) c k) = _
  unfold passP'; rw [bigSep_sep']

theorem lastP_all (c : Dev nD) :
    bigSep Finset.univ (lastP (F := F) c)
      = iprop((bigSep Finset.univ (sendP' (F := F) c) ∗ bigSep Finset.univ fun k : Fin 32 => atPos ER (cell c (.ySend k)) 0 ∅ 0)
        ∗ ((bigSep Finset.univ fun k : Fin 32 => cred (tallyAt (cell c (.xSend k)) () N)) ∗ bigSep Finset.univ fun k : Fin 32 => atPos ER (cell c (.xSend k)) 0 ∅ 0)
        ∗ ((bigSep Finset.univ fun k : Fin 32 => cred (tallyAt (cell c (.xRecv k)) () N)) ∗ bigSep Finset.univ fun k : Fin 32 => atPos ER (cell c (.xRecv k)) 0 ∅ 0)) := by
  show bigSep Finset.univ (fun k => lastP (F := F) c k) = _
  unfold lastP; rw [bigSep_sep', bigSep_sep', bigSep_sep', bigSep_sep', bigSep_sep']; rfl

theorem lastP'_all (c : Dev nD) :
    bigSep Finset.univ (lastP' m ρ c)
      = iprop(((bigSep Finset.univ fun k : Fin 32 => atPos ER (cell c (.ySend k)) 1 ∅ 0) ∗ bigSep Finset.univ fun k : Fin 32 => xAt m ρ c (srcs c k))
        ∗ ((bigSep Finset.univ fun k : Fin 32 => atPos ER (cell c (.xSend k)) 1 ∅ 0) ∗ bigSep Finset.univ fun k : Fin 32 => oAt c (setA c k) (outAt m ρ c))
        ∗ ((bigSep Finset.univ fun k : Fin 32 => atPos ER (cell c (.xRecv k)) 1 ∅ 0) ∗ bigSep Finset.univ fun k : Fin 32 => oAt c (setB c k) (outAt m ρ c))) := by
  show bigSep Finset.univ (fun k => lastP' m ρ c k) = _
  unfold lastP'; rw [bigSep_sep', bigSep_sep', bigSep_sep', bigSep_sep', bigSep_sep']

/-! ## After the barrier -/

/-- All that comes after the barrier: from the operand, the half of the result that is the device's own, and the neighbours' places, to the
    operand and the result at its final contents, every semaphore through its round and nothing owed. -/
theorem wp_afterBarrier (c : Dev nD) (fd : (cc0_stg1_0 : Ref sig .tc).ty.Contents (Elt F)) (W : Waits sig Unit) (Q : PUnit → sProp 𝕄) :
    iprop((records m ρ K ∗ levAts L lv) ∗ owes (c : Thread nD τ) (xOwed c 32 + yOwed c 32) W ∗ xAt m ρ c Finset.univ ∗ oAt c (setH c) fd
        ∗ (roomA (yp c) ∗ roomB (xp c)) ∗ atOwn c 0 ∗ toksAfter c ∗ credsAfter c)
      ⊢ iprop((((∃ W', owes (c : Thread nD τ) 0 W') ∗ xAt m ρ c Finset.univ ∗ oAt c Finset.univ (outAt m ρ c) ∗ atOwn c 1) -∗ |={Set.univ}=> Q ⟨⟩)
          -∗ wpc c (afterBarrier c) Q) := by
  unfold atOwn toksAfter credsAfter afterBarrier
  rw [own_split, own_split, xAt_parts, oAt_parts]
  iintro ⟨⟨#HR, #Hlev⟩, HO, ⟨⟨HxH, HxS⟩, HxR⟩, HoH, ⟨HA, HB⟩, ⟨HaK, HaYS, HaYR, HaXS, HaXR⟩, ⟨HtK, HtYS, HtYR, HtXS, HtXR⟩, HcYR, HcXR⟩ Hk
  -- every chunk to the `y` neighbour
  iapply (loop_send m ρ K c W) $$ [HO HxS HA HtYS HtYR]
  · isplitr; · iexact HR
    isplitr [HO]
    · rw [sendP_all]
      isplitl [HxS]; · iexact HxS
      isplitl [HA]; · iexact HA
      isplitl [HtYS] <;> iassumption
    iexact HO
  iintro ⟨⟨%W1, HO⟩, HcYS⟩
  -- the local copy
  iapply (step_keep m ρ K c fd) $$ [HxH HoH HtK]
  · isplitr; · iexact HR
    isplitl [HxH]; · iexact HxH
    isplitl [HoH] <;> iassumption
  iintro HcK
  -- every chunk received and passed on to the `x` neighbour
  iapply (loop_pass m ρ K c W1) $$ [HO HcYR HaYR HB HtXS HtXR]
  · isplitr
    · isplitr; · iexact HR
      iexact Hlev
    isplitr [HO]
    · rw [passP_all]
      isplitl [HcYR]; · iexact HcYR
      isplitl [HaYR]; · iexact HaYR
      isplitl [HB]; · iexact HB
      isplitl [HtXS] <;> iassumption
    iexact HO
  rw [passP'_all]
  iintro ⟨⟨%W2, HO⟩, HaYR, HcXS⟩
  -- the last waits of every chunk
  iapply (loop_last m ρ K c W2) $$ [HO HcYS HaYS HcXS HaXS HcXR HaXR]
  · isplitr
    · isplitr; · iexact HR
      iexact Hlev
    isplitr [HO]
    · rw [lastP_all]
      isplitl [HcYS HaYS]
      · isplitl [HcYS] <;> iassumption
      isplitl [HcXS HaXS]
      · isplitl [HcXS] <;> iassumption
      isplitl [HcXR] <;> iassumption
    iexact HO
  rw [lastP'_all]
  iintro ⟨⟨%W3, HO⟩, ⟨HaYS, HxS⟩, ⟨HaXS, HoA⟩, HaXR, HoB⟩
  -- the wait for the local copy
  iapply (step_keepWait m ρ K c W3) $$ [HcK HaK HO]
  · isplitr
    · isplitr; · iexact HR
      iexact Hlev
    isplitl [HcK]; · iexact HcK
    isplitl [HaK] <;> iassumption
  simp only [pay]
  iintro ⟨HO, HaK, HxH, HoH⟩
  unfold wpc; rw [wp_ret]
  iapply Hk
  isplitl [HO]; · iexact HO
  isplitl [HxH HxS HxR]
  · isplitr [HxR]
    · isplitl [HxH] <;> iassumption
    iexact HxR
  isplitl [HoH HoA HoB]
  · isplitr [HoB]
    · isplitl [HoH] <;> iassumption
    iexact HoB
  isplitl [HaK]; · iexact HaK
  isplitl [HaYS]; · iexact HaYS
  isplitl [HaYR]; · iexact HaYR
  isplitl [HaXS] <;> iassumption

end Cert.KernelIdealProof

end
-- ==== Proof.Sound.lean ====
/-
The whole body on device `c`: the two signals, the wait on the barrier, and what comes after; and the pipeline's proof data.
-/
module

public import proofs.«01_k».proof.Proof.Body

@[expose] public section

noncomputable section

namespace Cert.KernelIdealProof

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- `c`'s positions at round `n` of all its semaphores. -/
def atAll (c : Dev nD) (n : ℕ) : sProp 𝕄 := bigSep Finset.univ fun r : Role => atPos ER (cell c r) n ∅ 0

/-- The tokens of the duties that `c` pays. -/
def payToks (c : Dev nD) : sProp 𝕄 :=
  iprop(dutyTok ER (cell (yp c) .bar) 0 false ∗ dutyTok ER (cell (xp c) .bar) 0 true ∗ toksAfter c)

/-- The shared facts at some names, `c`'s positions and tokens. -/
def ghost (c : Dev nD) : sProp 𝕄 := iprop((∃ K, records m ρ K) ∗ atAll c 0 ∗ payToks c)

/-- What `c`'s body starts from: that, the levels, and the credit for the units that others owe `c`. -/
def start (c : Dev nD) : sProp 𝕄 := iprop(ghost m ρ c ∗ levAts L lv ∗ cred (tallyAt (cell c .bar) () 2) ∗ credsAfter c)

/-- What it ends with besides its staging buffers: every semaphore at zero. -/
def zeros (c : Dev nD) : sProp 𝕄 := bigSep Finset.univ fun r : Role => semVal (cell c r) 0

/-- The one grid point's proof data. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => start m ρ c
    | ⟨_ + 1, _⟩ => zeros c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A buffer of `c`'s, whole, at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(start m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(zeros c ∗ (dats m ρ 0 c).owesAt () t0_0.succ ∗ stg c cc0_stg0_0 (xstg m ρ c) ∗ stg c cc0_stg1_0 (outAt m ρ c))

theorem some_contents (P : (cc0_stg1_0 : Ref sig .tc).ty.Contents (Elt F) → sProp 𝕄) (f) : P f ⊢ iprop(∃ f, P f) := by
  iintro H; iexists f; iexact H

/-- A device's own barrier hands it the two neighbours' places; the other way round, its own places are what it hands over. -/
theorem room_parts (c : Dev nD) (f : (cc0_stg1_0 : Ref sig .tc).ty.Contents (Elt F)) :
    oAt c Finset.univ f ⊢ iprop(oAt c (setH c) f ∗ pay m ρ (yp c) false .bar ∗ pay m ρ (xp c) true .bar) := by
  have hA : (bigSep Finset.univ fun k : Fin 32 => oAt c (setA c k) f : sProp 𝕄) ⊢ roomA c :=
    bigSep_mono fun k _ => some_contents (fun f => oAt c (setA c k) f) f
  have hB : (bigSep Finset.univ fun k : Fin 32 => oAt c (setB c k) f : sProp 𝕄) ⊢ roomB c :=
    bigSep_mono fun k _ => some_contents (fun f => oAt c (setB c k) f) f
  rw [oAt_parts, show pay m ρ (yp c) false .bar = roomA c from congrArg roomA (yp_yp c),
    show pay m ρ (xp c) true .bar = roomB c from congrArg roomB (xp_xp c)]
  iintro ⟨⟨HH, HA⟩, HB⟩
  isplitl [HH]; · iexact HH
  isplitl [HA]
  · iapply hA; iexact HA
  · iapply hB; iexact HB

/-- A signal to a neighbour's barrier, paying its duty `b`. -/
theorem step_signal (K : Dev nD × Role → ℕ) (c c' n : Dev nD) (hn : n = c') (b : Bool) (O : CellTallies nD τ sig Unit) (W : Waits sig Unit)
    (p : Body (F := F)) (Q : PUnit → sProp 𝕄) :
    iprop(records m ρ K ∗ pay m ρ c' b .bar ∗ dutyTok ER (cell c' .bar) 0 b ∗ owes (c : Thread nD τ) (O + tallyAt (cell c' .bar) () 1) W)
      ⊢ iprop((owes (c : Thread nD τ) O W -∗ wpc c p Q) -∗ wpc c (semSignalWord n barS 1#32 >>= fun _ => p) Q) := by
  subst hn
  simp only [semSignalWord, Prog.lift, Prog.bind_op, Prog.bind_ret, Prog.pure_eq_ret]
  iintro ⟨#HR, Hp, Ht, HO⟩ Hk
  iapply (Rounds.wp_signal 𝒱₀ ER (Rd m ρ) (c : Thread nD τ) none (dst := (n : Thread nD τ)) (κ := K (n, .bar)) (r := 0)
      (d := b) (by rw [show ((n : Thread nD τ), SemLoc.reg barS) = cell n .bar from rfl, duties_cell]; exact Finset.mem_univ _)
      ((amount_cell m ρ n .bar b).trans (by decide)) () O rfl) $$ [HO Ht Hp]
  · isplitr; · iapply (inv_at m ρ K n .bar); iexact HR
    isplitl [HO]; · iexact HO
    isplitl [Ht]; · iexact Ht
    isplitl [Hp]
    · rw [show ((n : Thread nD τ), SemLoc.reg barS) = cell n .bar from rfl, payload_cell]; iexact Hp
    iapply (reached_at m ρ K n .bar); iexact HR
  iintro HO
  iapply Hk; iexact HO

/-- The wait on the device's own barrier. -/
theorem step_barWait (K : Dev nD × Role → ℕ) (c : Dev nD) (O : CellTallies nD τ sig Unit) (hO : Above 1 O) (W : Waits sig Unit)
    (p : Body (F := F)) (Q : PUnit → sProp 𝕄) :
    iprop((records m ρ K ∗ levAts L lv) ∗ cred (tallyAt (cell c .bar) () 2) ∗ atPos ER (cell c .bar) 0 ∅ 0 ∗ owes (c : Thread nD τ) O W)
      ⊢ iprop((((∃ W', owes (c : Thread nD τ) O W') ∗ atPos ER (cell c .bar) 1 ∅ 0 ∗ roomA (yp c) ∗ roomB (xp c)) -∗ wpc c p Q)
          -∗ wpc c (semWaitWord barS 2#32 >>= fun _ => p) Q) := by
  simp only [semWaitWord, Prog.lift, Prog.bind_op, Prog.bind_ret, Prog.pure_eq_ret]
  iintro ⟨⟨#HR, #Hlev⟩, Hc, Ha, HO⟩ Hk
  iapply (Rounds.wp_wait_rest_token 𝒱₀ ER (Rd m ρ) (c : Thread nD τ) none (κ := K (c, .bar))
      (wpE_semWait_eq 𝒱₀ (c : Thread nD τ) none Set.univ) (Set.mem_univ _) () (O := O) (W := W) (R := 0) (m := 0) (T := ∅)
      (by rw [show ((c : Thread nD τ), SemLoc.reg barS) = cell c .bar from rfl, expect_bar]; decide)) $$ [Hc HO Ha]
  · isplitr; · iapply (inv_at m ρ K c .bar); iexact HR
    isplitl [Hc]; · iexact Hc
    isplitl [HO]; · iexact HO
    isplitr; · iapply (mayWait_above c (.reg barS) 1 (le_of_eq (lv_cell c .bar)) O hO); iexact Hlev
    iexact Ha
  iintro ⟨HO, Ha, -, Hp⟩
  iapply Hk
  isplitl [HO]; · iexists _; iexact HO
  isplitl [Ha]; · iexact Ha
  iapply (Entails.of_eq (rest_bar m ρ c)); iexact Hp

/-- Every semaphore of `c`'s, its round over, is at zero again. -/
theorem close_all (K : Dev nD × Role → ℕ) (c : Dev nD) : iprop(records m ρ K ∗ atAll c 1) ⊢ |={Set.univ}=> (zeros c : sProp 𝕄) :=
  (bigSep_with_persistent (R := records m ρ K) (Ψ := fun r : Role => iprop(cellInv ER (Rd m ρ) (K (c, r)) (cell c r) ∗ atPos ER (cell c r) 1 ∅ 0)) fun r _ => by
    show iprop(records m ρ K ∗ atPos ER (cell c r) 1 ∅ 0) ⊢ _
    iintro ⟨#HR, Ha⟩
    isplitr; · iapply (inv_at m ρ K c r); iexact HR
    iexact Ha).trans
  (Rounds.cells_close ER (Rd m ρ) Finset.univ (fun r : Role => cell c r) (fun r => K (c, r)) (fun _ _ => Set.mem_univ _) (fun _ _ h => h) (fun _ => 1)
    fun r _ => duties_later m ρ (cell c r))

/-- The body, from `bodyPre` to `bodyPost`. -/
theorem sound_body (c : Dev nD) (Kt : PUnit → sProp 𝕄) :
    iprop(bodyPre m ρ c ∗ (bodyPost m ρ c -∗ Kt ⟨⟩)) ⊢ wpc c (flat (F := F)) Kt := by
  unfold flat wpc; rw [wp_deviceId]
  unfold onDev
  unfold bodyPre start ghost payToks atAll
  rw [role_split]
  iintro ⟨⟨⟨⟨⟨%K, #HR⟩, ⟨HaB, Ha⟩, HtY, HtX, Ht⟩, #Hlev, HcB, Hc⟩, Ho, ⟨%d0, %g0, %hg0, Hx⟩, ⟨%d1, %g1, %hg1, Hout⟩⟩, Hk⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₁ c + tallyAt (cell (yp c) .bar) () 1 from rfl]
  ihave Hr := (room_parts m ρ c g1) $$ [Hout]
  · unfold oAt; iexact Hout
  icases Hr with ⟨HH, HpY, HpX⟩
  -- the signals to the two neighbours' barriers hand over the places for their chunks
  iapply (step_signal m ρ K c (yp c) _ (yDev_eq c) false (O₁ c) W) $$ [HpY HtY HO]
  · isplitr; · iexact HR
    isplitl [HpY]; · iexact HpY
    isplitl [HtY] <;> iassumption
  unfold O₁
  iintro HO
  iapply (step_signal m ρ K c (xp c) _ (xDev_eq c) true (xOwed c 32 + yOwed c 32) W) $$ [HpX HtX HO]
  · isplitr; · iexact HR
    isplitl [HpX]; · iexact HpX
    isplitl [HtX] <;> iassumption
  iintro HO
  -- the wait on its own barrier: the neighbours' places
  iapply (step_barWait m ρ K c (xOwed c 32 + yOwed c 32) (((above_x c 32).mono (by decide)).add (above_y c 32)) W) $$ [HcB HaB HO]
  · isplitr
    · isplitr; · iexact HR
      iexact Hlev
    isplitl [HcB]; · iexact HcB
    isplitl [HaB] <;> iassumption
  iintro ⟨⟨%W1, HO⟩, HaB, Hroom⟩
  iapply (wp_afterBarrier m ρ K c g1 W1) $$ [HO Hx HH Hroom Ha Ht Hc]
  · isplitr
    · isplitr; · iexact HR
      iexact Hlev
    isplitl [HO]; · iexact HO
    isplitl [Hx]; · unfold xAt; iexact Hx
    isplitl [HH]; · iexact HH
    isplitl [Hroom]; · iexact Hroom
    isplitl [Ha]; · unfold atOwn; iexact Ha
    isplitl [Ht] <;> iassumption
  iintro ⟨HO, Hx, Hout, Ha⟩
  imod (close_all m ρ K c) $$ [HaB Ha] with Hz
  · isplitr; · iexact HR
    unfold atAll; rw [role_split]
    isplitl [HaB]; · iexact HaB
    unfold atOwn; iexact Ha
  imodintro
  iapply Hk
  unfold bodyPost Dat.owesAt Pipeline.owesWithin
  rw [show (dats m ρ 0 c).owed t0_0.succ = 0 from rfl]
  isplitl [Hz]; · iexact Hz
  isplitl [HO]
  · icases HO with ⟨%W2, HO⟩
    iexists W2
    isplitr; · ipureintro; exact fun _ _ => Or.inl trivial
    iexact HO
  unfold xAt oAt
  isplitl [Hx]
  · iexists _; isplitr; · (ipureintro; rfl)
    iexact Hx
  iexists _; isplitr; · (ipureintro; rfl)
  iexact Hout

set_option maxRecDepth 65536 in
/-- The pipeline's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wpc c (cc0_body (F := F) xM (Memref.isWhole_whole _) oM (Memref.isWhole_whole _)
    cc0_scratch0 cc0_scratch1 cc0_scratch2 cc0_scratch3 cc0_scratch4) (fun _ => bodyPost m ρ c)
  rw [body_eq_flat]
  iintro H
  iapply (sound_body m ρ c fun _ => bodyPost m ρ c)
  isplitl [H]; · iexact H
  iintro H; iexact H

end Cert.KernelIdealProof

end
-- ==== Proof.Launch.lean ====
/-
The launch: what every device is dealt, the global step that gives every semaphore its protocol, and the run.
-/
module

public import proofs.«01_k».proof.Proof.Sound
public import Idealize.ShloMosaic.Lib.Pipeline.Quiescent

@[expose] public section

noncomputable section

namespace Cert.KernelIdealProof

open Cert.KernelIdeal Cert.KernelIdeal.Gen
open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch's own semaphores -/

abbrev osem (o : Own) : SemLoc sig := csem (.inr o)

/-- The semaphores that the windows are staged with have no role. -/
theorem role_stage (w : Fin 2) (s : Fin (spec0 w).nbuf) : role (.dma ((spec0 w).sem s)) = none := by
  fin_cases w <;> fin_cases s <;> rfl

theorem osem_scoped (o : Own) : (osem o).isScoped .tc = true := by
  rcases o with ⟨⟩ | k | k | k | k
  · rfl
  all_goals (revert k; decide)

theorem ownSemFacts : Pipeline.OwnSemFacts cfg0.spec osem where
  isScoped := osem_scoped
  inj := csem_injective.comp Sum.inr_injective
  disj o w s h := by
    have := role_csem (.inr o)
    rw [show csem (.inr o) = .dma ((spec0 w).sem s) from h, role_stage] at this
    cases this

/-- The barrier is the one semaphore that does not belong to the launch. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

/-- Together they are the semaphores of all roles. -/
theorem sems0_eq (c : Dev nD) :
    iprop(unscopedSems0 c ∗ Pipeline.ownSems0 (Ix := Unit) (Name := ℕ) (U := UU) (Lvl := ℕ) (Val := Elt F) (τ := τ) osem c) = (zeros c : sProp 𝕄) := by
  unfold zeros Pipeline.ownSems0
  rw [role_split, unscopedSems0_eq]

/-! ## What the launch deals -/

/-- The duties of a device's semaphores: the barrier's two and one for every other. -/
def tokRole : Bool ⊕ Own → Role × Bool
  | .inl b => (.bar, b)
  | .inr o => (.inr o, false)

theorem tokRole_injective : Function.Injective tokRole := by
  rintro (b | o) (b' | o') h
  · exact congrArg _ (congrArg Prod.snd h)
  · cases congrArg Prod.fst h
  · cases congrArg Prod.fst h
  · exact congrArg _ (Sum.inr.inj (congrArg Prod.fst h))

abbrev tokOf (p : Dev nD × (Bool ⊕ Own)) : GSem nD τ sig × ℕ × Bool := (cell p.1 (tokRole p.2).1, 0, (tokRole p.2).2)

theorem tokOf_injective : Function.Injective tokOf := fun p q h => by
  have h1 := cell_eq_iff.mp (congrArg Prod.fst h)
  have h2 : (tokRole p.2).2 = (tokRole q.2).2 := congrArg (fun x : GSem nD τ sig × ℕ × Bool => x.2.2) h
  exact Prod.ext h1.1 (tokRole_injective (Prod.ext h1.2 h2))

def ringCells : Finset (GSem nD τ sig) := Finset.univ.map ⟨fun p : Dev nD × Role => cell p.1 p.2, cell_injective⟩
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of the duties of `c`'s semaphores; -/
def toks (c : Dev nD) : sProp 𝕄 := bigSep Finset.univ fun t : Bool ⊕ Own => dutyTok ER (cell c (tokRole t).1) 0 (tokRole t).2

/-- kind by kind. -/
theorem toks_eq (c : Dev nD) :
    (toks c : sProp 𝕄) = iprop((dutyTok ER (cell c .bar) 0 false ∗ dutyTok ER (cell c .bar) 0 true) ∗ dutyTok ER (cell c .keep) 0 false
      ∗ (bigSep Finset.univ fun k : Fin 32 => dutyTok ER (cell c (.ySend k)) 0 false)
      ∗ (bigSep Finset.univ fun k : Fin 32 => dutyTok ER (cell c (.yRecv k)) 0 false)
      ∗ (bigSep Finset.univ fun k : Fin 32 => dutyTok ER (cell c (.xSend k)) 0 false)
      ∗ bigSep Finset.univ fun k : Fin 32 => dutyTok ER (cell c (.xRecv k)) 0 false) := by
  unfold toks
  rw [BI.bigSep_univ_sum, own_split, bigSep_univ_eq_bigSepL [false, true] (by decide) (by decide)]; rfl

/-- What the launch deals device `c`. -/
def G (c : Dev nD) : sProp 𝕄 :=
  iprop((bigSep Finset.univ fun r : Role => roundState ER (Rd m ρ) (cell c r) 0)
    ∗ (bigSep Finset.univ fun r : Role => iprop(atPos ER (cell c r) 0 ∅ 0 ∗ reached ER (cell c r) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun r : Role => Φ (cell c r) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- Every semaphore of `c`'s, with its counter at zero, gets its invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun r : Role => iprop(∃ κ : ℕ, cellInv ER (Rd m ρ) κ (cell c r)))
          ∗ (bigSep Finset.univ fun r : Role => iprop(atPos ER (cell c r) 0 ∅ 0 ∗ reached ER (cell c r) 0)) ∗ toks c) := by
  have halloc : iprop(zeros c ∗ bigSep Finset.univ fun r : Role => roundState ER (Rd m ρ) (cell c r) 0)
      ⊢ (|={Set.univ}=> bigSep Finset.univ fun r : Role => iprop(∃ κ : ℕ, cellInv ER (Rd m ρ) κ (cell c r)) : sProp 𝕄) := by
    unfold zeros; rw [← bigSep_sep']
    exact (bigSep_mono fun r _ => (Rounds.body_intro ER (Rd m ρ) (cell c r)).trans inv_alloc).trans (bigSep_fupd _ _)
  unfold G
  iintro ⟨Hos, Hus, Hst, Hat, Htok⟩
  ihave Hv := (Entails.of_eq (sems0_eq (F := F) c)) $$ [Hos Hus]
  · isplitl [Hus] <;> iassumption
  imod halloc $$ [Hv Hst] with Hinv
  · isplitl [Hv] <;> iassumption
  imodintro
  isplitl [Hinv]; · iexact Hinv
  isplitl [Hat]; · iexact Hat
  iexact Htok

/-- The tokens go to those who pay: the barrier's to the two neighbours, a receive semaphore's to the neighbour it receives from. -/
theorem toks_around : (bigSep Finset.univ fun c : Dev nD => (toks c : sProp 𝕄)) ⊢ bigSep Finset.univ fun c : Dev nD => payToks c := by
  simp only [toks_eq]
  unfold payToks toksAfter
  simp only [bigSep_sep']
  rw [bigSep_univ_equiv ySwap (fun c : Dev nD => (dutyTok ER (cell c .bar) 0 false : sProp 𝕄)),
    bigSep_univ_equiv xSwap (fun c : Dev nD => (dutyTok ER (cell c .bar) 0 true : sProp 𝕄)),
    bigSep_univ_equiv ySwap (fun c : Dev nD => (bigSep Finset.univ fun k : Fin 32 => dutyTok ER (cell c (.yRecv k)) 0 false : sProp 𝕄)),
    bigSep_univ_equiv xSwap (fun c : Dev nD => (bigSep Finset.univ fun k : Fin 32 => dutyTok ER (cell c (.xRecv k)) 0 false : sProp 𝕄))]
  iintro ⟨⟨H1, H2⟩, H3, H4, H5, H6, H7⟩
  isplitl [H1]; · iexact H1
  isplitl [H2]; · iexact H2
  isplitl [H3]; · iexact H3
  isplitl [H4]; · iexact H4
  isplitl [H5]; · iexact H5
  isplitl [H6]; · iexact H6
  iexact H7

/-- All devices' invariants are the shared facts. -/
theorem regroup :
    (bigSep Finset.univ fun c : Dev nD => iprop((bigSep Finset.univ fun r : Role => iprop(∃ κ : ℕ, cellInv ER (Rd m ρ) κ (cell c r)))
          ∗ (bigSep Finset.univ fun r : Role => iprop(atPos ER (cell c r) 0 ∅ 0 ∗ reached ER (cell c r) 0)) ∗ toks c) : sProp 𝕄)
      ⊢ bigSep Finset.univ (ghost m ρ) := by
  rw [bigSep_sep', bigSep_sep', ← bigSep_univ_prod (fun p : Dev nD × Role => iprop(∃ κ : ℕ, cellInv ER (Rd m ρ) κ (cell p.1 p.2))),
    bigSep_congr (s := Finset.univ) (fun (c : Dev nD) _ => bigSep_sep' Finset.univ (fun r : Role => (atPos ER (cell c r) 0 ∅ 0 : sProp 𝕄)) (fun r => reached ER (cell c r) 0)),
    bigSep_sep', ← bigSep_univ_prod (fun p : Dev nD × Role => (reached ER (cell p.1 p.2) 0 : sProp 𝕄))]
  iintro ⟨HI, ⟨Hat, #HR⟩, Htok⟩
  ihave HK := (BI.bigSep_exists_pi Finset.univ (fun (p : Dev nD × Role) (κ : ℕ) => (cellInv ER (Rd m ρ) κ (cell p.1 p.2) : sProp 𝕄))) $$ HI
  icases HK with ⟨%K, #HI⟩
  ihave Htk := (toks_around (F := F)) $$ Htok
  iapply (bigSep_with_persistent (R := records m ρ K) (Φ := fun c : Dev nD => iprop(atAll c 0 ∗ payToks c)) fun c _ => by
    unfold ghost
    iintro ⟨#HR, Ha, Ht⟩
    isplitr; · iexists K; iexact HR
    isplitl [Ha] <;> iassumption)
  isplitr
  · unfold records; isplitl; · iexact HI
    iexact HR
  · rw [bigSep_sep']
    isplitl [Hat]; · unfold atAll; iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (ghost m ρ) :=
  ((bigSep_mono fun c _ => core_alloc m ρ c).trans (bigSep_fupd _ _)).trans (BI.fupd_mono (regroup m ρ))

/-! ## The launch credit -/

/-- A tally on one semaphore, read at another. -/
theorem tally_cell (a c : Dev nD) (s r : Role) (n : ℕ) : (tallyAt (cell a s) () n : CellTallies nD τ sig Unit) (cell c r) () = if c = a ∧ r = s then n else 0 := by
  rw [tallyAt_apply]; simp only [cell_eq_iff, and_true]

/-- Exactly one device has `c` as its neighbour. -/
theorem sum_neighbour (e : Dev nD ≃ Dev nD) (c : Dev nD) (P : Prop) [Decidable P] (n : ℕ) :
    (∑ d : Dev nD, if c = e d ∧ P then n else 0) = if P then n else 0 := by
  by_cases hP : P
  · simp only [hP, and_true, if_true]
    rw [Finset.sum_eq_single (e.symm c) (fun d _ hd => if_neg fun h => hd (by rw [h, Equiv.symm_apply_apply])) (fun h => absurd (Finset.mem_univ _) h),
      Equiv.apply_symm_apply, if_pos rfl]
  · simp only [hP, and_false, if_false, Finset.sum_const_zero]

theorem sum_y (c : Dev nD) (P : Prop) [Decidable P] (n : ℕ) : (∑ d : Dev nD, if c = yp d ∧ P then n else 0) = if P then n else 0 := sum_neighbour ySwap c P n
theorem sum_x (c : Dev nD) (P : Prop) [Decidable P] (n : ℕ) : (∑ d : Dev nD, if c = xp d ∧ P then n else 0) = if P then n else 0 := sum_neighbour xSwap c P n

/-- What all devices together owe `c`'s semaphore of role `r`. -/
theorem due_cell (c : Dev nD) (r : Role) :
    (∑ d : Dev nD, O₀ d (cell c r) ())
      = (((∑ k : Fin 32, if r = .xRecv k then N else 0) + ∑ k : Fin 32, if r = .yRecv k then N else 0) + if r = .bar then 1 else 0) + if r = .bar then 1 else 0 := by
  have h (d : Dev nD) : O₀ d (cell c r) ()
      = (((∑ k : Fin 32, if c = xp d ∧ r = .xRecv k then N else 0) + ∑ k : Fin 32, if c = yp d ∧ r = .yRecv k then N else 0)
        + if c = xp d ∧ r = .bar then 1 else 0) + if c = yp d ∧ r = .bar then 1 else 0 := by
    unfold O₀ O₁ xOwed yOwed
    simp only [lastN_all, Pi.add_apply, Finsupp.add_apply, Finset.sum_apply, Finsupp.finset_sum_apply, tally_cell]
  rw [Finset.sum_congr rfl fun d _ => h d]
  simp only [Finset.sum_add_distrib]
  rw [Finset.sum_comm, Finset.sum_comm (s := Finset.univ (α := Dev nD)) (f := fun d k => if c = yp d ∧ r = .yRecv k then N else 0)]
  simp only [sum_x, sum_y]

theorem due_bar (c : Dev nD) : (∑ d : Dev nD, O₀ d (cell c .bar) ()) = 2 := by
  rw [due_cell]; simp
theorem due_y (c : Dev nD) (k : Fin 32) : (∑ d : Dev nD, O₀ d (cell c (.yRecv k)) ()) = N := by
  rw [due_cell]; simp
theorem due_x (c : Dev nD) (k : Fin 32) : (∑ d : Dev nD, O₀ d (cell c (.xRecv k)) ()) = N := by
  rw [due_cell]; simp

theorem launch_cell (c : Dev nD) (r : Role) :
    tallyOn (cell c r) (launchCredit (Pipeline.owing O₀) 0 (cell c r)) = (tallyAt (cell c r) () (∑ d : Dev nD, O₀ d (cell c r) ()) : CellTallies nD τ sig Unit) := by
  unfold tallyAt; refine congrArg _ (Finsupp.ext fun u => ?_); cases u
  rw [Pipeline.launchCredit_owing, Finsupp.single_eq_same]

/-- The launch credit of `c`'s semaphores, by role. -/
theorem creds_roles (c : Dev nD) :
    (Pipeline.launchCred O₀ c : sProp 𝕄) ⊢ bigSep Finset.univ fun r : Role => cred (tallyAt (cell c r) () (∑ d : Dev nD, O₀ d (cell c r) ())) := by
  unfold Pipeline.launchCred
  refine (BI.bigSep_subset (Finset.subset_univ (Finset.univ.map ⟨csem, csem_injective⟩))).trans ?_
  rw [bigSep_map]
  exact bigSep_mono fun r _ => Entails.of_eq (congrArg cred (launch_cell c r))

theorem creds (c : Dev nD) : (Pipeline.launchCred O₀ c : sProp 𝕄) ⊢ iprop(cred (tallyAt (cell c .bar) () 2) ∗ credsAfter c) := by
  refine (creds_roles c).trans ?_
  rw [role_split, own_split]
  simp only [due_bar, due_y, due_x]
  unfold credsAfter
  iintro ⟨H1, -, -, H2, -, H3⟩
  isplitl [H1]; · iexact H1
  isplitl [H2] <;> iassumption

/-! ## The theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [Hlev]; · iexact Hlev
    isplitl [H1] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = zeros c from rfl, scopedRest0_eq, ← sems0_eq]
  iintro ⟨Hu, Ho⟩
  isplitl [Hu]; · iexact Hu
  isplitl [Ho]; · iexact Ho
  iempintro

theorem waits (c : Dev nD) : (levAts L lv : sProp 𝕄) ⊢ Pipeline.cellsWaits cfgs (dats m ρ) () 0 c :=
  Pipeline.cellsWaits_intro cfgs (dats m ρ) () 0 c fun w s t =>
    mayWait_above c _ 0 (le_of_eq (by unfold lv; rw [show role (.dma (((cfgs 0).win w).sem s)) = none from role_stage w s]; rfl)) _ (by
      rcases t with ⟨_ | _, ht⟩
      · exact above_O₀ c
      · exact Above.zero _)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, for any float values: every weakly fair execution on the four devices terminates, with each
    window's array at the contents computed above and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := ghost m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr; · ipureintro; exact h
      iexact HSI)
    (hQ := fun _ h hs => ⟨fun c w => (h c).1 w, sem_eq_zero hs fun c => (h c).2.2⟩)

/-- The operand's array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof

end
-- ==== Proof.Value.lean ====
/-
What the result's array holds after the run: of the whole array that the devices' operands are blocks of, the block of columns that
is the device's own.
-/
module

public import proofs.«01_k».proof.Proof.Launch
public import Idealize.ShloMosaic.Lib.Pipeline.ValueKit.Geometry
public import Idealize.ShloMosaic.Lib.Layout

@[expose] public section

noncomputable section

namespace Cert.KernelIdealProof

open Cert.KernelIdeal Cert.KernelIdeal.Gen
open Idealize.ShloMosaic Idealize.ShloMosaic.TcCoe Idealize.ShloMosaic.Pipeline

variable {F : FTy → Type} [FloatOps F]

variable (m : (ℓ : Loc nD τ sig) → Buf (Elt F) ℓ) (ρ : Dev nD → PrngReg)

/-- The operand is staged whole. -/
theorem xstg_eq (c : Dev nD) : xstg m ρ c = m ((c : Thread nD τ).loc main_arg0) := by
  funext (i : S2048x1024.Idx)
  exact congrArg (m ((c : Thread nD τ).loc main_arg0))
    (funext fun a => Fin.ext (win0_0.rect_emb_val_of_index_zero (0 : Fin 1) a rfl i))

/-- The result's array ends holding what the body leaves in its staging buffer. -/
theorem finalA_out (c : Dev nD) : finalA m ρ c (1 : Fin 2) = outAt m ρ c :=
  (dats m ρ 0 c).arrAt_eq_of_after_last (1 : Fin 2) t0_0 (by decide +kernel) _ fun _ => rfl

/-- The place on the mesh along the axis named `y`, by which both arrays are cut. -/
theorem meshLin_y : ∀ c : Dev nD, Layout.meshLin [2, 2] c.val [1] = c.val % 2 := by decide

/-- If each operand is its device's block of rows of an array, then each result is its device's block of columns of that array. -/
theorem outAt_block (v : Shape.Idx ⟨2, ![4096, 1024]⟩ → Elt F .f32)
    (hx : ∀ c : Dev nD, m ((c : Thread nD τ).loc main_arg0)
      = Layout.blockN ⟨2, ![2048, 1024]⟩ ⟨2, ![4096, 1024]⟩ (Layout.meshBlock [2, 2] ![[1], []] c) v) (c : Dev nD) :
    outAt m ρ c = Layout.blockN ⟨2, ![4096, 512]⟩ ⟨2, ![4096, 1024]⟩ (Layout.meshBlock [2, 2] ![[], [1]] c) v := by
  funext (i : S4096x512.Idx)
  unfold outAt
  rw [xstg_eq, hx]
  refine congrArg v (funext fun a => Fin.ext ?_)
  have h0 : (i 0).val < 4096 := (i 0).isLt
  fin_cases a
  · show Layout.meshLin [2, 2] (srcDev c i).val [1] * 2048 + (i 0).val % 2048 = 0 * 4096 + (i 0).val
    rw [meshLin_y, show (srcDev c i).val % 2 = (i 0).val / 2048 by unfold srcDev; dsimp only; omega]
    omega
  · show 0 * 1024 + (512 * (c.val % 2) + (i 1).val) = Layout.meshLin [2, 2] c.val [1] * 512 + (i 1).val
    rw [meshLin_y]; omega

end Cert.KernelIdealProof

end
-- ==== Proof.lean ====
/-
The proof of `Cert.Claim`: the frames of the kernel, of its ideal reading and of the reference, that the ideal reading is the
kernel's own text, and that in exact arithmetic kernel and reference compute the same array. Both kernel frames and the values
come from one run (Proof/Launch.lean), proved for any float values; the contents of the result are read in Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import Idealize.ShloMosaic.Lib.StableHlo.RunHlo
public import Idealize.ShloMosaic.Lib.Pipeline.Quiescent

@[expose] public section

noncomputable section

namespace Cert.Proof

open Idealize.ShloMosaic Idealize.ShloMosaic.TcCoe Idealize.SL.Sem

/-! ## The reference -/

/-- The reference does nothing: it ends, with every buffer of its one device as it was. -/
theorem run_reference (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩ fun r =>
      ∀ (c : Dev ReferenceIdeal.nD) (b : Ref ReferenceIdeal.sig .tc),
        r.2.mem ((c.tc : Thread ReferenceIdeal.nD ReferenceIdeal.τ).loc b) = m ((c.tc : Thread ReferenceIdeal.nD ReferenceIdeal.τ).loc b) :=
  StableHlo.run_seq (by decide) (by decide) ReferenceIdeal.defs ReferenceIdeal.main (fun _ => []) (fun _ => rfl) (fun _ => trivial) m ρ

/-- The reference runs, leaves its argument, and has no counter that could end above zero. -/
theorem frame_reference : Cert.quiescent_ReferenceIdeal := fun m ρ _ =>
  (θ_run ReferenceIdeal.defs _ _).mono
    (fun r h => ⟨fun c => h c ReferenceIdeal.main_arg0, sem_eq_zero_of_no_sems rfl r.2⟩) (run_reference m ρ)

/-! ## The kernel -/

/-- The kernel's ideal reading runs, leaves its operands and every counter at zero. -/
theorem frame_ideal : Cert.quiescent_KernelIdeal := fun m ρ _ =>
  (θ_run KernelIdeal.defs _ _).mono
    (fun _ h => ⟨fun c => (h.1 c (0 : Fin 2)).trans (KernelIdealProof.finalA_x m ρ c), h.2⟩)
    (KernelIdealProof.run_main (F := Ideal) m ρ)

set_option maxRecDepth 65536 in
/-- The body that the kernel prints and the one that its ideal reading prints are the same program. -/
theorem body_eq (a₁ h₁ a₂ h₂ s₁ s₂ s₃ s₄ s₅) :
    Kernel.cc0_body (F := Bits) a₁ h₁ a₂ h₂ s₁ s₂ s₃ s₄ s₅ = KernelIdeal.cc0_body (F := Bits) a₁ h₁ a₂ h₂ s₁ s₂ s₃ s₄ s₅ := rfl

/-- So are the tables of the bodies, -/
theorem defs₀_eq : Kernel.defs₀ (F := Bits) = KernelIdeal.defs₀ (F := Bits) := by
  refine congrArg Defs.onTc (funext fun l => funext fun a => ?_)
  match l, a with
  | 0, (_, _) => exact body_eq ..

/-- and the tables with the pipeline. -/
theorem defs_eq : Kernel.defs (F := Bits) = KernelIdeal.defs (F := Bits) :=
  congrArg (Pipeline.defs (KernelIdeal.pcfgs (F := Bits))) defs₀_eq

/-- The kernel too runs, leaves its operands and every counter at zero: its text is the ideal reading's, whose run holds for any
    float values. -/
theorem frame_kernel : Cert.quiescent_Kernel := fun m ρ _ =>
  (congrArg (fun D => θ_run D _ _ _) defs_eq).mpr
    ((θ_run KernelIdeal.defs _ _).mono
      (fun _ h => ⟨fun c => (h.1 c (0 : Fin 2)).trans (KernelIdealProof.finalA_x m ρ c), h.2⟩)
      (KernelIdealProof.run_main (F := Bits) m ρ))

/-! ## The value -/

/-- In exact arithmetic, where the operands are the blocks of rows of the reference's argument, the results are the blocks of
    columns of the reference's result, which is that argument. -/
theorem value : Cert.algebraic_KernelIdeal_ReferenceIdeal := fun m ρ m' ρ' _ hx =>
  ⟨m' (((0 : Dev ReferenceIdeal.nD).tc : Thread ReferenceIdeal.nD ReferenceIdeal.τ).loc ReferenceIdeal.main_arg0),
    (θ_run KernelIdeal.defs _ _).mono
      (fun _ h c => ⟨(h.1 c (1 : Fin 2)).trans ((KernelIdealProof.finalA_out m ρ c).trans (KernelIdealProof.outAt_block m ρ _ hx c)),
        (h.1 c (0 : Fin 2)).trans (KernelIdealProof.finalA_x m ρ c)⟩)
      (KernelIdealProof.run_main (F := Ideal) m ρ),
    (θ_run ReferenceIdeal.defs _ _).mono (fun _ h => ⟨h 0 ReferenceIdeal.main_arg0, h 0 ReferenceIdeal.main_arg0⟩) (run_reference m' ρ')⟩

/-- Every claim of the certificate. -/
theorem claim : Cert.Claim :=
  ⟨Cert.Kernel.Gen.facts, Cert.KernelIdeal.Gen.facts, Cert.ReferenceIdeal.Gen.facts,
    frame_kernel, frame_ideal, frame_reference, trivial, value⟩

end Cert.Proof

end
